-- ==== Defs.lean ====
def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite [hPre_finite : Cert.Pre_finite.Facts] (m : (ℓ : Loc Cert.PoolIdeal.nD Cert.PoolIdeal.τ Cert.PoolIdeal.sig) → Buf (Elt Ideal) ℓ) : Prop :=
  ∀ c : Dev Cert.PoolIdeal.nD,
    (Cert.Pre_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite [hPre_finite : Cert.Pre_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Kvs (m : (ℓ : Loc Cert.Kvs.nD Cert.Kvs.τ Cert.Kvs.sig) → Buf (Elt Bits) ℓ) : Prop :=
  True

def Pre_KvsIdeal (m : (ℓ : Loc Cert.KvsIdeal.nD Cert.KvsIdeal.τ Cert.KvsIdeal.sig) → Buf (Elt Ideal) ℓ) : Prop :=
  True

def Pre_KvsRefIdeal (m : (ℓ : Loc Cert.KvsRefIdeal.nD Cert.KvsRefIdeal.τ Cert.KvsRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ffs (m : (ℓ : Loc Cert.Ffs.nD Cert.Ffs.τ Cert.Ffs.sig) → Buf (Elt Bits) ℓ) : Prop :=
  True

def Pre_FfsIdeal (m : (ℓ : Loc Cert.FfsIdeal.nD Cert.FfsIdeal.τ Cert.FfsIdeal.sig) → Buf (Elt Ideal) ℓ) : Prop :=
  True

def Pre_FfsRefIdeal (m : (ℓ : Loc Cert.FfsRefIdeal.nD Cert.FfsRefIdeal.τ Cert.FfsRefIdeal.sig) → Buf (Elt Ideal) ℓ) : Prop :=
  True

def Pre_Qs (m : (ℓ : Loc Cert.Qs.nD Cert.Qs.τ Cert.Qs.sig) → Buf (Elt Bits) ℓ) : Prop :=
  True

def Pre_QsIdeal (m : (ℓ : Loc Cert.QsIdeal.nD Cert.QsIdeal.τ Cert.QsIdeal.sig) → Buf (Elt Ideal) ℓ) : Prop :=
  True

def Pre_QsRefIdeal (m : (ℓ : Loc Cert.QsRefIdeal.nD Cert.QsRefIdeal.τ Cert.QsRefIdeal.sig) → Buf (Elt Ideal) ℓ) : Prop :=
  True

def Pre_Gs (m : (ℓ : Loc Cert.Gs.nD Cert.Gs.τ Cert.Gs.sig) → Buf (Elt Bits) ℓ) : Prop :=
  True

def Pre_GsIdeal (m : (ℓ : Loc Cert.GsIdeal.nD Cert.GsIdeal.τ Cert.GsIdeal.sig) → Buf (Elt Ideal) ℓ) : Prop :=
  True

def Pre_GsRefIdeal (m : (ℓ : Loc Cert.GsRefIdeal.nD Cert.GsRefIdeal.τ Cert.GsRefIdeal.sig) → Buf (Elt Ideal) ℓ) : Prop :=
  True

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_PoolIdeal_pre_finite [hPoolIdeal : Cert.PoolIdeal.Facts] [hPre_finite : Cert.Pre_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5))
      ∧ r.2.sem = fun _ => 0)

def quiescent_PoolRefIdeal_pre_finite [hPoolRefIdeal : Cert.PoolRefIdeal.Facts] [hPre_finite : Cert.Pre_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Kvs [hKvs : Cert.Kvs.Facts] : Prop :=
  ∀ (m : (ℓ : Loc Cert.Kvs.nD Cert.Kvs.τ Cert.Kvs.sig) → Buf (Elt Bits) ℓ) (g : Dev Cert.Kvs.nD → PrngReg), Pre_Kvs m →
    θ_run (Cert.Kvs.defs (F := Bits)) (onTc (τ := Cert.Kvs.τ) (Cert.Kvs.main (F := Bits))) ⟨m, fun _ => 0, g⟩ (fun r => (∀ c : Dev Cert.Kvs.nD,
      r.2.mem ((c.tc : Thread Cert.Kvs.nD Cert.Kvs.τ).loc Cert.Kvs.main_arg0) = m ((c.tc : Thread Cert.Kvs.nD Cert.Kvs.τ).loc Cert.Kvs.main_arg0)
      ∧ r.2.mem ((c.tc : Thread Cert.Kvs.nD Cert.Kvs.τ).loc Cert.Kvs.main_arg1) = m ((c.tc : Thread Cert.Kvs.nD Cert.Kvs.τ).loc Cert.Kvs.main_arg1))
      ∧ r.2.sem = fun _ => 0)

def quiescent_KvsIdeal [hKvsIdeal : Cert.KvsIdeal.Facts] : Prop :=
  ∀ (m : (ℓ : Loc Cert.KvsIdeal.nD Cert.KvsIdeal.τ Cert.KvsIdeal.sig) → Buf (Elt Ideal) ℓ) (g : Dev Cert.KvsIdeal.nD → PrngReg), Pre_KvsIdeal m →
    θ_run (Cert.KvsIdeal.defs (F := Ideal)) (onTc (τ := Cert.KvsIdeal.τ) (Cert.KvsIdeal.main (F := Ideal))) ⟨m, fun _ => 0, g⟩ (fun r => (∀ c : Dev Cert.KvsIdeal.nD,
      r.2.mem ((c.tc : Thread Cert.KvsIdeal.nD Cert.KvsIdeal.τ).loc Cert.KvsIdeal.main_arg0) = m ((c.tc : Thread Cert.KvsIdeal.nD Cert.KvsIdeal.τ).loc Cert.KvsIdeal.main_arg0)
      ∧ r.2.mem ((c.tc : Thread Cert.KvsIdeal.nD Cert.KvsIdeal.τ).loc Cert.KvsIdeal.main_arg1) = m ((c.tc : Thread Cert.KvsIdeal.nD Cert.KvsIdeal.τ).loc Cert.KvsIdeal.main_arg1))
      ∧ r.2.sem = fun _ => 0)

def quiescent_KvsRefIdeal [hKvsRefIdeal : Cert.KvsRefIdeal.Facts] : Prop :=
  ∀ (m : (ℓ : Loc Cert.KvsRefIdeal.nD Cert.KvsRefIdeal.τ Cert.KvsRefIdeal.sig) → Buf (Elt Ideal) ℓ) (g : Dev Cert.KvsRefIdeal.nD → PrngReg), Pre_KvsRefIdeal m →
    θ_run (Cert.KvsRefIdeal.defs (F := Ideal)) (onTc (τ := Cert.KvsRefIdeal.τ) (Cert.KvsRefIdeal.main (F := Ideal))) ⟨m, fun _ => 0, g⟩ (fun r => (∀ c : Dev Cert.KvsRefIdeal.nD,
      r.2.mem ((c.tc : Thread Cert.KvsRefIdeal.nD Cert.KvsRefIdeal.τ).loc Cert.KvsRefIdeal.main_arg0) = m ((c.tc : Thread Cert.KvsRefIdeal.nD Cert.KvsRefIdeal.τ).loc Cert.KvsRefIdeal.main_arg0)
      ∧ r.2.mem ((c.tc : Thread Cert.KvsRefIdeal.nD Cert.KvsRefIdeal.τ).loc Cert.KvsRefIdeal.main_arg1) = m ((c.tc : Thread Cert.KvsRefIdeal.nD Cert.KvsRefIdeal.τ).loc Cert.KvsRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Ffs [hFfs : Cert.Ffs.Facts] : Prop :=
  ∀ (m : (ℓ : Loc Cert.Ffs.nD Cert.Ffs.τ Cert.Ffs.sig) → Buf (Elt Bits) ℓ) (g : Dev Cert.Ffs.nD → PrngReg), Pre_Ffs m →
    θ_run (Cert.Ffs.defs (F := Bits)) (onTc (τ := Cert.Ffs.τ) (Cert.Ffs.main (F := Bits))) ⟨m, fun _ => 0, g⟩ (fun r => (∀ c : Dev Cert.Ffs.nD,
      r.2.mem ((c.tc : Thread Cert.Ffs.nD Cert.Ffs.τ).loc Cert.Ffs.main_arg0) = m ((c.tc : Thread Cert.Ffs.nD Cert.Ffs.τ).loc Cert.Ffs.main_arg0)
      ∧ r.2.mem ((c.tc : Thread Cert.Ffs.nD Cert.Ffs.τ).loc Cert.Ffs.main_arg1) = m ((c.tc : Thread Cert.Ffs.nD Cert.Ffs.τ).loc Cert.Ffs.main_arg1)
      ∧ r.2.mem ((c.tc : Thread Cert.Ffs.nD Cert.Ffs.τ).loc Cert.Ffs.main_arg2) = m ((c.tc : Thread Cert.Ffs.nD Cert.Ffs.τ).loc Cert.Ffs.main_arg2)
      ∧ r.2.mem ((c.tc : Thread Cert.Ffs.nD Cert.Ffs.τ).loc Cert.Ffs.main_arg3) = m ((c.tc : Thread Cert.Ffs.nD Cert.Ffs.τ).loc Cert.Ffs.main_arg3)
      ∧ r.2.mem ((c.tc : Thread Cert.Ffs.nD Cert.Ffs.τ).loc Cert.Ffs.main_arg4) = m ((c.tc : Thread Cert.Ffs.nD Cert.Ffs.τ).loc Cert.Ffs.main_arg4)
      ∧ r.2.mem ((c.tc : Thread Cert.Ffs.nD Cert.Ffs.τ).loc Cert.Ffs.main_arg5) = m ((c.tc : Thread Cert.Ffs.nD Cert.Ffs.τ).loc Cert.Ffs.main_arg5)
      ∧ r.2.mem ((c.tc : Thread Cert.Ffs.nD Cert.Ffs.τ).loc Cert.Ffs.main_arg6) = m ((c.tc : Thread Cert.Ffs.nD Cert.Ffs.τ).loc Cert.Ffs.main_arg6)
      ∧ r.2.mem ((c.tc : Thread Cert.Ffs.nD Cert.Ffs.τ).loc Cert.Ffs.main_arg7) = m ((c.tc : Thread Cert.Ffs.nD Cert.Ffs.τ).loc Cert.Ffs.main_arg7))
      ∧ r.2.sem = fun _ => 0)

def quiescent_FfsIdeal [hFfsIdeal : Cert.FfsIdeal.Facts] : Prop :=
  ∀ (m : (ℓ : Loc Cert.FfsIdeal.nD Cert.FfsIdeal.τ Cert.FfsIdeal.sig) → Buf (Elt Ideal) ℓ) (g : Dev Cert.FfsIdeal.nD → PrngReg), Pre_FfsIdeal m →
    θ_run (Cert.FfsIdeal.defs (F := Ideal)) (onTc (τ := Cert.FfsIdeal.τ) (Cert.FfsIdeal.main (F := Ideal))) ⟨m, fun _ => 0, g⟩ (fun r => (∀ c : Dev Cert.FfsIdeal.nD,
      r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
      ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
      ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
      ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
      ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4)
      ∧ r.2.mem ((c.tc : Thread Cert.FfsIdeal.nD Cert.FfsIdeal.τ).loc Cert.FfsIdeal.main_arg5) = m ((c.tc : Thread Cert.FfsIdeal.nD Cert.FfsIdeal.τ).loc Cert.FfsIdeal.main_arg5)
      ∧ r.2.mem ((c.tc : Thread Cert.FfsIdeal.nD Cert.FfsIdeal.τ).loc Cert.FfsIdeal.main_arg6) = m ((c.tc : Thread Cert.FfsIdeal.nD Cert.FfsIdeal.τ).loc Cert.FfsIdeal.main_arg6)
      ∧ r.2.mem ((c.tc : Thread Cert.FfsIdeal.nD Cert.FfsIdeal.τ).loc Cert.FfsIdeal.main_arg7) = m ((c.tc : Thread Cert.FfsIdeal.nD Cert.FfsIdeal.τ).loc Cert.FfsIdeal.main_arg7))
      ∧ r.2.sem = fun _ => 0)

def quiescent_FfsRefIdeal [hFfsRefIdeal : Cert.FfsRefIdeal.Facts] : Prop :=
  ∀ (m : (ℓ : Loc Cert.FfsRefIdeal.nD Cert.FfsRefIdeal.τ Cert.FfsRefIdeal.sig) → Buf (Elt Ideal) ℓ) (g : Dev Cert.FfsRefIdeal.nD → PrngReg), Pre_FfsRefIdeal m →
    θ_run (Cert.FfsRefIdeal.defs (F := Ideal)) (onTc (τ := Cert.FfsRefIdeal.τ) (Cert.FfsRefIdeal.main (F := Ideal))) ⟨m, fun _ => 0, g⟩ (fun r => (∀ c : Dev Cert.FfsRefIdeal.nD,
      r.2.mem ((c.tc : Thread Cert.FfsRefIdeal.nD Cert.FfsRefIdeal.τ).loc Cert.FfsRefIdeal.main_arg0) = m ((c.tc : Thread Cert.FfsRefIdeal.nD Cert.FfsRefIdeal.τ).loc Cert.FfsRefIdeal.main_arg0)
      ∧ r.2.mem ((c.tc : Thread Cert.FfsRefIdeal.nD Cert.FfsRefIdeal.τ).loc Cert.FfsRefIdeal.main_arg1) = m ((c.tc : Thread Cert.FfsRefIdeal.nD Cert.FfsRefIdeal.τ).loc Cert.FfsRefIdeal.main_arg1)
      ∧ r.2.mem ((c.tc : Thread Cert.FfsRefIdeal.nD Cert.FfsRefIdeal.τ).loc Cert.FfsRefIdeal.main_arg2) = m ((c.tc : Thread Cert.FfsRefIdeal.nD Cert.FfsRefIdeal.τ).loc Cert.FfsRefIdeal.main_arg2)
      ∧ r.2.mem ((c.tc : Thread Cert.FfsRefIdeal.nD Cert.FfsRefIdeal.τ).loc Cert.FfsRefIdeal.main_arg3) = m ((c.tc : Thread Cert.FfsRefIdeal.nD Cert.FfsRefIdeal.τ).loc Cert.FfsRefIdeal.main_arg3)
      ∧ r.2.mem ((c.tc : Thread Cert.FfsRefIdeal.nD Cert.FfsRefIdeal.τ).loc Cert.FfsRefIdeal.main_arg4) = m ((c.tc : Thread Cert.FfsRefIdeal.nD Cert.FfsRefIdeal.τ).loc Cert.FfsRefIdeal.main_arg4)
      ∧ r.2.mem ((c.tc : Thread Cert.FfsRefIdeal.nD Cert.FfsRefIdeal.τ).loc Cert.FfsRefIdeal.main_arg5) = m ((c.tc : Thread Cert.FfsRefIdeal.nD Cert.FfsRefIdeal.τ).loc Cert.FfsRefIdeal.main_arg5)
      ∧ r.2.mem ((c.tc : Thread Cert.FfsRefIdeal.nD Cert.FfsRefIdeal.τ).loc Cert.FfsRefIdeal.main_arg6) = m ((c.tc : Thread Cert.FfsRefIdeal.nD Cert.FfsRefIdeal.τ).loc Cert.FfsRefIdeal.main_arg6)
      ∧ r.2.mem ((c.tc : Thread Cert.FfsRefIdeal.nD Cert.FfsRefIdeal.τ).loc Cert.FfsRefIdeal.main_arg7) = m ((c.tc : Thread Cert.FfsRefIdeal.nD Cert.FfsRefIdeal.τ).loc Cert.FfsRefIdeal.main_arg7))
      ∧ r.2.sem = fun _ => 0)

def quiescent_Qs [hQs : Cert.Qs.Facts] : Prop :=
  ∀ (m : (ℓ : Loc Cert.Qs.nD Cert.Qs.τ Cert.Qs.sig) → Buf (Elt Bits) ℓ) (g : Dev Cert.Qs.nD → PrngReg), Pre_Qs m →
    θ_run (Cert.Qs.defs (F := Bits)) (onTc (τ := Cert.Qs.τ) (Cert.Qs.main (F := Bits))) ⟨m, fun _ => 0, g⟩ (fun r => (∀ c : Dev Cert.Qs.nD,
      r.2.mem ((c.tc : Thread Cert.Qs.nD Cert.Qs.τ).loc Cert.Qs.main_arg0) = m ((c.tc : Thread Cert.Qs.nD Cert.Qs.τ).loc Cert.Qs.main_arg0)
      ∧ r.2.mem ((c.tc : Thread Cert.Qs.nD Cert.Qs.τ).loc Cert.Qs.main_arg1) = m ((c.tc : Thread Cert.Qs.nD Cert.Qs.τ).loc Cert.Qs.main_arg1))
      ∧ r.2.sem = fun _ => 0)

def quiescent_QsIdeal [hQsIdeal : Cert.QsIdeal.Facts] : Prop :=
  ∀ (m : (ℓ : Loc Cert.QsIdeal.nD Cert.QsIdeal.τ Cert.QsIdeal.sig) → Buf (Elt Ideal) ℓ) (g : Dev Cert.QsIdeal.nD → PrngReg), Pre_QsIdeal m →
    θ_run (Cert.QsIdeal.defs (F := Ideal)) (onTc (τ := Cert.QsIdeal.τ) (Cert.QsIdeal.main (F := Ideal))) ⟨m, fun _ => 0, g⟩ (fun r => (∀ c : Dev Cert.QsIdeal.nD,
      r.2.mem ((c.tc : Thread Cert.QsIdeal.nD Cert.QsIdeal.τ).loc Cert.QsIdeal.main_arg0) = m ((c.tc : Thread Cert.QsIdeal.nD Cert.QsIdeal.τ).loc Cert.QsIdeal.main_arg0)
      ∧ r.2.mem ((c.tc : Thread Cert.QsIdeal.nD Cert.QsIdeal.τ).loc Cert.QsIdeal.main_arg1) = m ((c.tc : Thread Cert.QsIdeal.nD Cert.QsIdeal.τ).loc Cert.QsIdeal.main_arg1))
      ∧ r.2.sem = fun _ => 0)

def quiescent_QsRefIdeal [hQsRefIdeal : Cert.QsRefIdeal.Facts] : Prop :=
  ∀ (m : (ℓ : Loc Cert.QsRefIdeal.nD Cert.QsRefIdeal.τ Cert.QsRefIdeal.sig) → Buf (Elt Ideal) ℓ) (g : Dev Cert.QsRefIdeal.nD → PrngReg), Pre_QsRefIdeal m →
    θ_run (Cert.QsRefIdeal.defs (F := Ideal)) (onTc (τ := Cert.QsRefIdeal.τ) (Cert.QsRefIdeal.main (F := Ideal))) ⟨m, fun _ => 0, g⟩ (fun r => (∀ c : Dev Cert.QsRefIdeal.nD,
      r.2.mem ((c.tc : Thread Cert.QsRefIdeal.nD Cert.QsRefIdeal.τ).loc Cert.QsRefIdeal.main_arg0) = m ((c.tc : Thread Cert.QsRefIdeal.nD Cert.QsRefIdeal.τ).loc Cert.QsRefIdeal.main_arg0)
      ∧ r.2.mem ((c.tc : Thread Cert.QsRefIdeal.nD Cert.QsRefIdeal.τ).loc Cert.QsRefIdeal.main_arg1) = m ((c.tc : Thread Cert.QsRefIdeal.nD Cert.QsRefIdeal.τ).loc Cert.QsRefIdeal.main_arg1))
      ∧ r.2.sem = fun _ => 0)

def quiescent_Gs [hGs : Cert.Gs.Facts] : Prop :=
  ∀ (m : (ℓ : Loc Cert.Gs.nD Cert.Gs.τ Cert.Gs.sig) → Buf (Elt Bits) ℓ) (g : Dev Cert.Gs.nD → PrngReg), Pre_Gs m →
    θ_run (Cert.Gs.defs (F := Bits)) (onTc (τ := Cert.Gs.τ) (Cert.Gs.main (F := Bits))) ⟨m, fun _ => 0, g⟩ (fun r => (∀ c : Dev Cert.Gs.nD,
      r.2.mem ((c.tc : Thread Cert.Gs.nD Cert.Gs.τ).loc Cert.Gs.main_arg0) = m ((c.tc : Thread Cert.Gs.nD Cert.Gs.τ).loc Cert.Gs.main_arg0)
      ∧ r.2.mem ((c.tc : Thread Cert.Gs.nD Cert.Gs.τ).loc Cert.Gs.main_arg1) = m ((c.tc : Thread Cert.Gs.nD Cert.Gs.τ).loc Cert.Gs.main_arg1))
      ∧ r.2.sem = fun _ => 0)

def quiescent_GsIdeal [hGsIdeal : Cert.GsIdeal.Facts] : Prop :=
  ∀ (m : (ℓ : Loc Cert.GsIdeal.nD Cert.GsIdeal.τ Cert.GsIdeal.sig) → Buf (Elt Ideal) ℓ) (g : Dev Cert.GsIdeal.nD → PrngReg), Pre_GsIdeal m →
    θ_run (Cert.GsIdeal.defs (F := Ideal)) (onTc (τ := Cert.GsIdeal.τ) (Cert.GsIdeal.main (F := Ideal))) ⟨m, fun _ => 0, g⟩ (fun r => (∀ c : Dev Cert.GsIdeal.nD,
      r.2.mem ((c.tc : Thread Cert.GsIdeal.nD Cert.GsIdeal.τ).loc Cert.GsIdeal.main_arg0) = m ((c.tc : Thread Cert.GsIdeal.nD Cert.GsIdeal.τ).loc Cert.GsIdeal.main_arg0)
      ∧ r.2.mem ((c.tc : Thread Cert.GsIdeal.nD Cert.GsIdeal.τ).loc Cert.GsIdeal.main_arg1) = m ((c.tc : Thread Cert.GsIdeal.nD Cert.GsIdeal.τ).loc Cert.GsIdeal.main_arg1))
      ∧ r.2.sem = fun _ => 0)

def quiescent_GsRefIdeal [hGsRefIdeal : Cert.GsRefIdeal.Facts] : Prop :=
  ∀ (m : (ℓ : Loc Cert.GsRefIdeal.nD Cert.GsRefIdeal.τ Cert.GsRefIdeal.sig) → Buf (Elt Ideal) ℓ) (g : Dev Cert.GsRefIdeal.nD → PrngReg), Pre_GsRefIdeal m →
    θ_run (Cert.GsRefIdeal.defs (F := Ideal)) (onTc (τ := Cert.GsRefIdeal.τ) (Cert.GsRefIdeal.main (F := Ideal))) ⟨m, fun _ => 0, g⟩ (fun r => (∀ c : Dev Cert.GsRefIdeal.nD,
      r.2.mem ((c.tc : Thread Cert.GsRefIdeal.nD Cert.GsRefIdeal.τ).loc Cert.GsRefIdeal.main_arg0) = m ((c.tc : Thread Cert.GsRefIdeal.nD Cert.GsRefIdeal.τ).loc Cert.GsRefIdeal.main_arg0)
      ∧ r.2.mem ((c.tc : Thread Cert.GsRefIdeal.nD Cert.GsRefIdeal.τ).loc Cert.GsRefIdeal.main_arg1) = m ((c.tc : Thread Cert.GsRefIdeal.nD Cert.GsRefIdeal.τ).loc Cert.GsRefIdeal.main_arg1))
      ∧ r.2.sem = fun _ => 0)

def preserves_Pool_PoolIdeal : Prop :=
  True

def algebraic_PoolIdeal_PoolRefIdeal_pre_finite [hPoolIdeal : Cert.PoolIdeal.Facts] [hPoolRefIdeal : Cert.PoolRefIdeal.Facts] [hPre_finite : Cert.Pre_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)) →
    ∃ (v0 : (c : Dev Cert.PoolIdeal.nD) → Buf (Elt Ideal) ((c.tc : Thread Cert.PoolIdeal.nD Cert.PoolIdeal.τ).loc Cert.PoolIdeal.main_v6)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v6) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v92) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)) (v2 : (c : Dev Cert.FfnIdeal.nD) → Buf (Elt Ideal) ((c.tc : Thread Cert.FfnIdeal.nD Cert.FfnIdeal.τ).loc Cert.FfnIdeal.main_v6_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_v6_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v72) = v0 c
          ∧ r.2.mem ((c.tc : Thread Cert.FfnRefIdeal.nD Cert.FfnRefIdeal.τ).loc Cert.FfnRefIdeal.main_v73) = v1 c
          ∧ r.2.mem ((c.tc : Thread Cert.FfnRefIdeal.nD Cert.FfnRefIdeal.τ).loc Cert.FfnRefIdeal.main_v74) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v15) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v3_0)) (v1 : (c : Dev Cert.KvIdeal.nD) → Buf (Elt Ideal) ((c.tc : Thread Cert.KvIdeal.nD Cert.KvIdeal.τ).loc Cert.KvIdeal.main_v3_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3_0) = v0 c
          ∧ r.2.mem ((c.tc : Thread Cert.KvIdeal.nD Cert.KvIdeal.τ).loc Cert.KvIdeal.main_v3_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_v4) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Kvs_KvsIdeal : Prop :=
  True

def algebraic_KvsIdeal_KvsRefIdeal [hKvsIdeal : Cert.KvsIdeal.Facts] [hKvsRefIdeal : Cert.KvsRefIdeal.Facts] : Prop :=
  ∀ (m : (ℓ : Loc Cert.KvsIdeal.nD Cert.KvsIdeal.τ Cert.KvsIdeal.sig) → Buf (Elt Ideal) ℓ) (g : Dev Cert.KvsIdeal.nD → PrngReg)
    (m' : (ℓ : Loc Cert.KvsRefIdeal.nD Cert.KvsRefIdeal.τ Cert.KvsRefIdeal.sig) → Buf (Elt Ideal) ℓ) (g' : Dev Cert.KvsRefIdeal.nD → PrngReg), Pre_KvsIdeal m →
    (∀ c : Dev Cert.KvsIdeal.nD,
      m' ((c.tc : Thread Cert.KvsRefIdeal.nD Cert.KvsRefIdeal.τ).loc Cert.KvsRefIdeal.main_arg0) = m ((c.tc : Thread Cert.KvsIdeal.nD Cert.KvsIdeal.τ).loc Cert.KvsIdeal.main_arg0)
      ∧ m' ((c.tc : Thread Cert.KvsRefIdeal.nD Cert.KvsRefIdeal.τ).loc Cert.KvsRefIdeal.main_arg1) = m ((c.tc : Thread Cert.KvsIdeal.nD Cert.KvsIdeal.τ).loc Cert.KvsIdeal.main_arg1)) →
    ∃ (v0 : (c : Dev Cert.KvsIdeal.nD) → Buf (Elt Ideal) ((c.tc : Thread Cert.KvsIdeal.nD Cert.KvsIdeal.τ).loc Cert.KvsIdeal.main_v2)),
      θ_run (Cert.KvsIdeal.defs (F := Ideal)) (onTc (τ := Cert.KvsIdeal.τ) (Cert.KvsIdeal.main (F := Ideal))) ⟨m, fun _ => 0, g⟩ (fun r => ∀ c : Dev Cert.KvsIdeal.nD,
          r.2.mem ((c.tc : Thread Cert.KvsIdeal.nD Cert.KvsIdeal.τ).loc Cert.KvsIdeal.main_v2) = v0 c
          ∧ r.2.mem ((c.tc : Thread Cert.KvsIdeal.nD Cert.KvsIdeal.τ).loc Cert.KvsIdeal.main_arg0) = m ((c.tc : Thread Cert.KvsIdeal.nD Cert.KvsIdeal.τ).loc Cert.KvsIdeal.main_arg0)
          ∧ r.2.mem ((c.tc : Thread Cert.KvsIdeal.nD Cert.KvsIdeal.τ).loc Cert.KvsIdeal.main_arg1) = m ((c.tc : Thread Cert.KvsIdeal.nD Cert.KvsIdeal.τ).loc Cert.KvsIdeal.main_arg1))
      ∧ θ_run (Cert.KvsRefIdeal.defs (F := Ideal)) (onTc (τ := Cert.KvsRefIdeal.τ) (Cert.KvsRefIdeal.main (F := Ideal))) ⟨m', fun _ => 0, g'⟩ (fun r => ∀ c : Dev Cert.KvsRefIdeal.nD,
          r.2.mem ((c.tc : Thread Cert.KvsRefIdeal.nD Cert.KvsRefIdeal.τ).loc Cert.KvsRefIdeal.main_v1) = v0 c
          ∧ r.2.mem ((c.tc : Thread Cert.KvsRefIdeal.nD Cert.KvsRefIdeal.τ).loc Cert.KvsRefIdeal.main_arg0) = m' ((c.tc : Thread Cert.KvsRefIdeal.nD Cert.KvsRefIdeal.τ).loc Cert.KvsRefIdeal.main_arg0)
          ∧ r.2.mem ((c.tc : Thread Cert.KvsRefIdeal.nD Cert.KvsRefIdeal.τ).loc Cert.KvsRefIdeal.main_arg1) = m' ((c.tc : Thread Cert.KvsRefIdeal.nD Cert.KvsRefIdeal.τ).loc Cert.KvsRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v8)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v8) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v30) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Ffs_FfsIdeal : Prop :=
  True

def algebraic_FfsIdeal_FfsRefIdeal [hFfsIdeal : Cert.FfsIdeal.Facts] [hFfsRefIdeal : Cert.FfsRefIdeal.Facts] : Prop :=
  ∀ (m : (ℓ : Loc Cert.FfsIdeal.nD Cert.FfsIdeal.τ Cert.FfsIdeal.sig) → Buf (Elt Ideal) ℓ) (g : Dev Cert.FfsIdeal.nD → PrngReg)
    (m' : (ℓ : Loc Cert.FfsRefIdeal.nD Cert.FfsRefIdeal.τ Cert.FfsRefIdeal.sig) → Buf (Elt Ideal) ℓ) (g' : Dev Cert.FfsRefIdeal.nD → PrngReg), Pre_FfsIdeal m →
    (∀ c : Dev Cert.FfsIdeal.nD,
      m' ((c.tc : Thread Cert.FfsRefIdeal.nD Cert.FfsRefIdeal.τ).loc Cert.FfsRefIdeal.main_arg0) = m ((c.tc : Thread Cert.FfsIdeal.nD Cert.FfsIdeal.τ).loc Cert.FfsIdeal.main_arg0)
      ∧ m' ((c.tc : Thread Cert.FfsRefIdeal.nD Cert.FfsRefIdeal.τ).loc Cert.FfsRefIdeal.main_arg1) = m ((c.tc : Thread Cert.FfsIdeal.nD Cert.FfsIdeal.τ).loc Cert.FfsIdeal.main_arg1)
      ∧ m' ((c.tc : Thread Cert.FfsRefIdeal.nD Cert.FfsRefIdeal.τ).loc Cert.FfsRefIdeal.main_arg2) = m ((c.tc : Thread Cert.FfsIdeal.nD Cert.FfsIdeal.τ).loc Cert.FfsIdeal.main_arg2)
      ∧ m' ((c.tc : Thread Cert.FfsRefIdeal.nD Cert.FfsRefIdeal.τ).loc Cert.FfsRefIdeal.main_arg3) = m ((c.tc : Thread Cert.FfsIdeal.nD Cert.FfsIdeal.τ).loc Cert.FfsIdeal.main_arg3)
      ∧ m' ((c.tc : Thread Cert.FfsRefIdeal.nD Cert.FfsRefIdeal.τ).loc Cert.FfsRefIdeal.main_arg4) = m ((c.tc : Thread Cert.FfsIdeal.nD Cert.FfsIdeal.τ).loc Cert.FfsIdeal.main_arg4)
      ∧ m' ((c.tc : Thread Cert.FfsRefIdeal.nD Cert.FfsRefIdeal.τ).loc Cert.FfsRefIdeal.main_arg5) = m ((c.tc : Thread Cert.FfsIdeal.nD Cert.FfsIdeal.τ).loc Cert.FfsIdeal.main_arg5)
      ∧ m' ((c.tc : Thread Cert.FfsRefIdeal.nD Cert.FfsRefIdeal.τ).loc Cert.FfsRefIdeal.main_arg6) = m ((c.tc : Thread Cert.FfsIdeal.nD Cert.FfsIdeal.τ).loc Cert.FfsIdeal.main_arg6)
      ∧ m' ((c.tc : Thread Cert.FfsRefIdeal.nD Cert.FfsRefIdeal.τ).loc Cert.FfsRefIdeal.main_arg7) = m ((c.tc : Thread Cert.FfsIdeal.nD Cert.FfsIdeal.τ).loc Cert.FfsIdeal.main_arg7)) →
    ∃ (v0 : (c : Dev Cert.FfsIdeal.nD) → Buf (Elt Ideal) ((c.tc : Thread Cert.FfsIdeal.nD Cert.FfsIdeal.τ).loc Cert.FfsIdeal.main_v6_0)) (v1 : (c : Dev Cert.FfsIdeal.nD) → Buf (Elt Ideal) ((c.tc : Thread Cert.FfsIdeal.nD Cert.FfsIdeal.τ).loc Cert.FfsIdeal.main_v6_1)) (v2 : (c : Dev Cert.FfsIdeal.nD) → Buf (Elt Ideal) ((c.tc : Thread Cert.FfsIdeal.nD Cert.FfsIdeal.τ).loc Cert.FfsIdeal.main_v6_2)),
      θ_run (Cert.FfsIdeal.defs (F := Ideal)) (onTc (τ := Cert.FfsIdeal.τ) (Cert.FfsIdeal.main (F := Ideal))) ⟨m, fun _ => 0, g⟩ (fun r => ∀ c : Dev Cert.FfsIdeal.nD,
          r.2.mem ((c.tc : Thread Cert.FfsIdeal.nD Cert.FfsIdeal.τ).loc Cert.FfsIdeal.main_v6_0) = v0 c
          ∧ r.2.mem ((c.tc : Thread Cert.FfsIdeal.nD Cert.FfsIdeal.τ).loc Cert.FfsIdeal.main_v6_1) = v1 c
          ∧ r.2.mem ((c.tc : Thread Cert.FfsIdeal.nD Cert.FfsIdeal.τ).loc Cert.FfsIdeal.main_v6_2) = v2 c
          ∧ r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
          ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
          ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
          ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
          ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4)
          ∧ r.2.mem ((c.tc : Thread Cert.FfsIdeal.nD Cert.FfsIdeal.τ).loc Cert.FfsIdeal.main_arg5) = m ((c.tc : Thread Cert.FfsIdeal.nD Cert.FfsIdeal.τ).loc Cert.FfsIdeal.main_arg5)
          ∧ r.2.mem ((c.tc : Thread Cert.FfsIdeal.nD Cert.FfsIdeal.τ).loc Cert.FfsIdeal.main_arg6) = m ((c.tc : Thread Cert.FfsIdeal.nD Cert.FfsIdeal.τ).loc Cert.FfsIdeal.main_arg6)
          ∧ r.2.mem ((c.tc : Thread Cert.FfsIdeal.nD Cert.FfsIdeal.τ).loc Cert.FfsIdeal.main_arg7) = m ((c.tc : Thread Cert.FfsIdeal.nD Cert.FfsIdeal.τ).loc Cert.FfsIdeal.main_arg7))
      ∧ θ_run (Cert.FfsRefIdeal.defs (F := Ideal)) (onTc (τ := Cert.FfsRefIdeal.τ) (Cert.FfsRefIdeal.main (F := Ideal))) ⟨m', fun _ => 0, g'⟩ (fun r => ∀ c : Dev Cert.FfsRefIdeal.nD,
          r.2.mem ((c.tc : Thread Cert.FfsRefIdeal.nD Cert.FfsRefIdeal.τ).loc Cert.FfsRefIdeal.main_v72) = v0 c
          ∧ r.2.mem ((c.tc : Thread Cert.FfsRefIdeal.nD Cert.FfsRefIdeal.τ).loc Cert.FfsRefIdeal.main_v73) = v1 c
          ∧ r.2.mem ((c.tc : Thread Cert.FfsRefIdeal.nD Cert.FfsRefIdeal.τ).loc Cert.FfsRefIdeal.main_v74) = v2 c
          ∧ r.2.mem ((c.tc : Thread Cert.FfsRefIdeal.nD Cert.FfsRefIdeal.τ).loc Cert.FfsRefIdeal.main_arg0) = m' ((c.tc : Thread Cert.FfsRefIdeal.nD Cert.FfsRefIdeal.τ).loc Cert.FfsRefIdeal.main_arg0)
          ∧ r.2.mem ((c.tc : Thread Cert.FfsRefIdeal.nD Cert.FfsRefIdeal.τ).loc Cert.FfsRefIdeal.main_arg1) = m' ((c.tc : Thread Cert.FfsRefIdeal.nD Cert.FfsRefIdeal.τ).loc Cert.FfsRefIdeal.main_arg1)
          ∧ r.2.mem ((c.tc : Thread Cert.FfsRefIdeal.nD Cert.FfsRefIdeal.τ).loc Cert.FfsRefIdeal.main_arg2) = m' ((c.tc : Thread Cert.FfsRefIdeal.nD Cert.FfsRefIdeal.τ).loc Cert.FfsRefIdeal.main_arg2)
          ∧ r.2.mem ((c.tc : Thread Cert.FfsRefIdeal.nD Cert.FfsRefIdeal.τ).loc Cert.FfsRefIdeal.main_arg3) = m' ((c.tc : Thread Cert.FfsRefIdeal.nD Cert.FfsRefIdeal.τ).loc Cert.FfsRefIdeal.main_arg3)
          ∧ r.2.mem ((c.tc : Thread Cert.FfsRefIdeal.nD Cert.FfsRefIdeal.τ).loc Cert.FfsRefIdeal.main_arg4) = m' ((c.tc : Thread Cert.FfsRefIdeal.nD Cert.FfsRefIdeal.τ).loc Cert.FfsRefIdeal.main_arg4)
          ∧ r.2.mem ((c.tc : Thread Cert.FfsRefIdeal.nD Cert.FfsRefIdeal.τ).loc Cert.FfsRefIdeal.main_arg5) = m' ((c.tc : Thread Cert.FfsRefIdeal.nD Cert.FfsRefIdeal.τ).loc Cert.FfsRefIdeal.main_arg5)
          ∧ r.2.mem ((c.tc : Thread Cert.FfsRefIdeal.nD Cert.FfsRefIdeal.τ).loc Cert.FfsRefIdeal.main_arg6) = m' ((c.tc : Thread Cert.FfsRefIdeal.nD Cert.FfsRefIdeal.τ).loc Cert.FfsRefIdeal.main_arg6)
          ∧ r.2.mem ((c.tc : Thread Cert.FfsRefIdeal.nD Cert.FfsRefIdeal.τ).loc Cert.FfsRefIdeal.main_arg7) = m' ((c.tc : Thread Cert.FfsRefIdeal.nD Cert.FfsRefIdeal.τ).loc Cert.FfsRefIdeal.main_arg7))

def preserves_Qs_QsIdeal : Prop :=
  True

def algebraic_QsIdeal_QsRefIdeal [hQsIdeal : Cert.QsIdeal.Facts] [hQsRefIdeal : Cert.QsRefIdeal.Facts] : Prop :=
  ∀ (m : (ℓ : Loc Cert.QsIdeal.nD Cert.QsIdeal.τ Cert.QsIdeal.sig) → Buf (Elt Ideal) ℓ) (g : Dev Cert.QsIdeal.nD → PrngReg)
    (m' : (ℓ : Loc Cert.QsRefIdeal.nD Cert.QsRefIdeal.τ Cert.QsRefIdeal.sig) → Buf (Elt Ideal) ℓ) (g' : Dev Cert.QsRefIdeal.nD → PrngReg), Pre_QsIdeal m →
    (∀ c : Dev Cert.QsIdeal.nD,
      m' ((c.tc : Thread Cert.QsRefIdeal.nD Cert.QsRefIdeal.τ).loc Cert.QsRefIdeal.main_arg0) = m ((c.tc : Thread Cert.QsIdeal.nD Cert.QsIdeal.τ).loc Cert.QsIdeal.main_arg0)
      ∧ m' ((c.tc : Thread Cert.QsRefIdeal.nD Cert.QsRefIdeal.τ).loc Cert.QsRefIdeal.main_arg1) = m ((c.tc : Thread Cert.QsIdeal.nD Cert.QsIdeal.τ).loc Cert.QsIdeal.main_arg1)) →
    ∃ (v0 : (c : Dev Cert.QsIdeal.nD) → Buf (Elt Ideal) ((c.tc : Thread Cert.QsIdeal.nD Cert.QsIdeal.τ).loc Cert.QsIdeal.main_v7)),
      θ_run (Cert.QsIdeal.defs (F := Ideal)) (onTc (τ := Cert.QsIdeal.τ) (Cert.QsIdeal.main (F := Ideal))) ⟨m, fun _ => 0, g⟩ (fun r => ∀ c : Dev Cert.QsIdeal.nD,
          r.2.mem ((c.tc : Thread Cert.QsIdeal.nD Cert.QsIdeal.τ).loc Cert.QsIdeal.main_v7) = v0 c
          ∧ r.2.mem ((c.tc : Thread Cert.QsIdeal.nD Cert.QsIdeal.τ).loc Cert.QsIdeal.main_arg0) = m ((c.tc : Thread Cert.QsIdeal.nD Cert.QsIdeal.τ).loc Cert.QsIdeal.main_arg0)
          ∧ r.2.mem ((c.tc : Thread Cert.QsIdeal.nD Cert.QsIdeal.τ).loc Cert.QsIdeal.main_arg1) = m ((c.tc : Thread Cert.QsIdeal.nD Cert.QsIdeal.τ).loc Cert.QsIdeal.main_arg1))
      ∧ θ_run (Cert.QsRefIdeal.defs (F := Ideal)) (onTc (τ := Cert.QsRefIdeal.τ) (Cert.QsRefIdeal.main (F := Ideal))) ⟨m', fun _ => 0, g'⟩ (fun r => ∀ c : Dev Cert.QsRefIdeal.nD,
          r.2.mem ((c.tc : Thread Cert.QsRefIdeal.nD Cert.QsRefIdeal.τ).loc Cert.QsRefIdeal.main_v7) = v0 c
          ∧ r.2.mem ((c.tc : Thread Cert.QsRefIdeal.nD Cert.QsRefIdeal.τ).loc Cert.QsRefIdeal.main_arg0) = m' ((c.tc : Thread Cert.QsRefIdeal.nD Cert.QsRefIdeal.τ).loc Cert.QsRefIdeal.main_arg0)
          ∧ r.2.mem ((c.tc : Thread Cert.QsRefIdeal.nD Cert.QsRefIdeal.τ).loc Cert.QsRefIdeal.main_arg1) = m' ((c.tc : Thread Cert.QsRefIdeal.nD Cert.QsRefIdeal.τ).loc Cert.QsRefIdeal.main_arg1))

def preserves_Gs_GsIdeal : Prop :=
  True

def algebraic_GsIdeal_GsRefIdeal [hGsIdeal : Cert.GsIdeal.Facts] [hGsRefIdeal : Cert.GsRefIdeal.Facts] : Prop :=
  ∀ (m : (ℓ : Loc Cert.GsIdeal.nD Cert.GsIdeal.τ Cert.GsIdeal.sig) → Buf (Elt Ideal) ℓ) (g : Dev Cert.GsIdeal.nD → PrngReg)
    (m' : (ℓ : Loc Cert.GsRefIdeal.nD Cert.GsRefIdeal.τ Cert.GsRefIdeal.sig) → Buf (Elt Ideal) ℓ) (g' : Dev Cert.GsRefIdeal.nD → PrngReg), Pre_GsIdeal m →
    (∀ c : Dev Cert.GsIdeal.nD,
      m' ((c.tc : Thread Cert.GsRefIdeal.nD Cert.GsRefIdeal.τ).loc Cert.GsRefIdeal.main_arg0) = m ((c.tc : Thread Cert.GsIdeal.nD Cert.GsIdeal.τ).loc Cert.GsIdeal.main_arg0)
      ∧ m' ((c.tc : Thread Cert.GsRefIdeal.nD Cert.GsRefIdeal.τ).loc Cert.GsRefIdeal.main_arg1) = m ((c.tc : Thread Cert.GsIdeal.nD Cert.GsIdeal.τ).loc Cert.GsIdeal.main_arg1)) →
    ∃ (v0 : (c : Dev Cert.GsIdeal.nD) → Buf (Elt Ideal) ((c.tc : Thread Cert.GsIdeal.nD Cert.GsIdeal.τ).loc Cert.GsIdeal.main_v2)),
      θ_run (Cert.GsIdeal.defs (F := Ideal)) (onTc (τ := Cert.GsIdeal.τ) (Cert.GsIdeal.main (F := Ideal))) ⟨m, fun _ => 0, g⟩ (fun r => ∀ c : Dev Cert.GsIdeal.nD,
          r.2.mem ((c.tc : Thread Cert.GsIdeal.nD Cert.GsIdeal.τ).loc Cert.GsIdeal.main_v2) = v0 c
          ∧ r.2.mem ((c.tc : Thread Cert.GsIdeal.nD Cert.GsIdeal.τ).loc Cert.GsIdeal.main_arg0) = m ((c.tc : Thread Cert.GsIdeal.nD Cert.GsIdeal.τ).loc Cert.GsIdeal.main_arg0)
          ∧ r.2.mem ((c.tc : Thread Cert.GsIdeal.nD Cert.GsIdeal.τ).loc Cert.GsIdeal.main_arg1) = m ((c.tc : Thread Cert.GsIdeal.nD Cert.GsIdeal.τ).loc Cert.GsIdeal.main_arg1))
      ∧ θ_run (Cert.GsRefIdeal.defs (F := Ideal)) (onTc (τ := Cert.GsRefIdeal.τ) (Cert.GsRefIdeal.main (F := Ideal))) ⟨m', fun _ => 0, g'⟩ (fun r => ∀ c : Dev Cert.GsRefIdeal.nD,
          r.2.mem ((c.tc : Thread Cert.GsRefIdeal.nD Cert.GsRefIdeal.τ).loc Cert.GsRefIdeal.main_v7) = v0 c
          ∧ r.2.mem ((c.tc : Thread Cert.GsRefIdeal.nD Cert.GsRefIdeal.τ).loc Cert.GsRefIdeal.main_arg0) = m' ((c.tc : Thread Cert.GsRefIdeal.nD Cert.GsRefIdeal.τ).loc Cert.GsRefIdeal.main_arg0)
          ∧ r.2.mem ((c.tc : Thread Cert.GsRefIdeal.nD Cert.GsRefIdeal.τ).loc Cert.GsRefIdeal.main_arg1) = m' ((c.tc : Thread Cert.GsRefIdeal.nD Cert.GsRefIdeal.τ).loc Cert.GsRefIdeal.main_arg1))

def Claim : Prop :=
  ∃ (hPool : Cert.Pool.Facts) (hPoolIdeal : Cert.PoolIdeal.Facts) (hPoolRefIdeal : Cert.PoolRefIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hKv : Cert.Kv.Facts) (hKvIdeal : Cert.KvIdeal.Facts) (hKvRefIdeal : Cert.KvRefIdeal.Facts) (hKvs : Cert.Kvs.Facts) (hKvsIdeal : Cert.KvsIdeal.Facts) (hKvsRefIdeal : Cert.KvsRefIdeal.Facts) (hOut : Cert.Out.Facts) (hOutIdeal : Cert.OutIdeal.Facts) (hOutRefIdeal : Cert.OutRefIdeal.Facts) (hFfs : Cert.Ffs.Facts) (hFfsIdeal : Cert.FfsIdeal.Facts) (hFfsRefIdeal : Cert.FfsRefIdeal.Facts) (hQs : Cert.Qs.Facts) (hQsIdeal : Cert.QsIdeal.Facts) (hQsRefIdeal : Cert.QsRefIdeal.Facts) (hGs : Cert.Gs.Facts) (hGsIdeal : Cert.GsIdeal.Facts) (hGsRefIdeal : Cert.GsRefIdeal.Facts) (hPre_finite : Cert.Pre_finite.Facts),
    quiescent_Pool (hPool := hPool)
    ∧ quiescent_PoolIdeal (hPoolIdeal := hPoolIdeal)
    ∧ quiescent_PoolIdeal_pre_finite (hPoolIdeal := hPoolIdeal) (hPre_finite := hPre_finite)
    ∧ quiescent_PoolRefIdeal (hPoolRefIdeal := hPoolRefIdeal)
    ∧ quiescent_PoolRefIdeal_pre_finite (hPoolRefIdeal := hPoolRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_Kv (hKv := hKv)
    ∧ quiescent_KvIdeal (hKvIdeal := hKvIdeal)
    ∧ quiescent_KvRefIdeal (hKvRefIdeal := hKvRefIdeal)
    ∧ quiescent_Kvs (hKvs := hKvs)
    ∧ quiescent_KvsIdeal (hKvsIdeal := hKvsIdeal)
    ∧ quiescent_KvsRefIdeal (hKvsRefIdeal := hKvsRefIdeal)
    ∧ quiescent_Out (hOut := hOut)
    ∧ quiescent_OutIdeal (hOutIdeal := hOutIdeal)
    ∧ quiescent_OutRefIdeal (hOutRefIdeal := hOutRefIdeal)
    ∧ quiescent_Ffs (hFfs := hFfs)
    ∧ quiescent_FfsIdeal (hFfsIdeal := hFfsIdeal)
    ∧ quiescent_FfsRefIdeal (hFfsRefIdeal := hFfsRefIdeal)
    ∧ quiescent_Qs (hQs := hQs)
    ∧ quiescent_QsIdeal (hQsIdeal := hQsIdeal)
    ∧ quiescent_QsRefIdeal (hQsRefIdeal := hQsRefIdeal)
    ∧ quiescent_Gs (hGs := hGs)
    ∧ quiescent_GsIdeal (hGsIdeal := hGsIdeal)
    ∧ quiescent_GsRefIdeal (hGsRefIdeal := hGsRefIdeal)
    ∧ preserves_Pool_PoolIdeal
    ∧ algebraic_PoolIdeal_PoolRefIdeal_pre_finite (hPoolIdeal := hPoolIdeal) (hPoolRefIdeal := hPoolRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_Kv_KvIdeal
    ∧ algebraic_KvIdeal_KvRefIdeal (hKvIdeal := hKvIdeal) (hKvRefIdeal := hKvRefIdeal)
    ∧ preserves_Kvs_KvsIdeal
    ∧ algebraic_KvsIdeal_KvsRefIdeal (hKvsIdeal := hKvsIdeal) (hKvsRefIdeal := hKvsRefIdeal)
    ∧ preserves_Out_OutIdeal
    ∧ algebraic_OutIdeal_OutRefIdeal (hOutIdeal := hOutIdeal) (hOutRefIdeal := hOutRefIdeal)
    ∧ preserves_Ffs_FfsIdeal
    ∧ algebraic_FfsIdeal_FfsRefIdeal (hFfsIdeal := hFfsIdeal) (hFfsRefIdeal := hFfsRefIdeal)
    ∧ preserves_Qs_QsIdeal
    ∧ algebraic_QsIdeal_QsRefIdeal (hQsIdeal := hQsIdeal) (hQsRefIdeal := hQsRefIdeal)
    ∧ preserves_Gs_GsIdeal
    ∧ algebraic_GsIdeal_GsRefIdeal (hGsIdeal := hGsIdeal) (hGsRefIdeal := hGsRefIdeal)
-- ==== Pre_finite.lean ====
abbrev S2x8192x1024 : Shape := ⟨3, ![2, 8192, 1024]⟩
abbrev S4x256x256 : Shape := ⟨3, ![4, 256, 256]⟩
abbrev S1024 : Shape := ⟨1, ![1024]⟩
abbrev S_ : Shape := ⟨0, ![]⟩

class Facts : Prop where
  bcast_S_S2x8192x1024 : S_.BroadcastsInDim S2x8192x1024 (![] : Fin 0 → Fin S2x8192x1024.rank)

variable [Facts]

def fn {F : FTy → Type} [FloatOps F] (main_arg0 : FVec F S2x8192x1024 .f32) (main_arg1 : FVec F S4x256x256 .f32) (main_arg2 : FVec F S1024 .f32) (main_arg3 : FVec F S1024 .f32) (main_arg4 : FVec F S1024 .f32) (main_arg5 : FVec F S1024 .f32) : IVec S2x8192x1024 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  main_v2
-- ==== Pool.lean ====
abbrev S2x8192x1024 : Shape := ⟨3, ![2, 8192, 1024]⟩
abbrev S4x256x256 : Shape := ⟨3, ![4, 256, 256]⟩
abbrev S1024 : Shape := ⟨1, ![1024]⟩
abbrev S_ : Shape := ⟨0, ![]⟩
abbrev S2x16x1024 : Shape := ⟨3, ![2, 16, 1024]⟩
abbrev S1x1024 : Shape := ⟨2, ![1, 1024]⟩
abbrev S1x512x1024 : Shape := ⟨3, ![1, 512, 1024]⟩
abbrev S1x16x1024 : Shape := ⟨3, ![1, 16, 1024]⟩
abbrev S512x1024 : Shape := ⟨2, ![512, 1024]⟩
abbrev S16x1024 : Shape := ⟨2, ![16, 1024]⟩
abbrev S528x1024 : Shape := ⟨2, ![528, 1024]⟩
abbrev S512x256 : Shape := ⟨2, ![512, 256]⟩
abbrev S528x256 : Shape := ⟨2, ![528, 256]⟩
abbrev S527x256 : Shape := ⟨2, ![527, 256]⟩
abbrev S1x256x256 : Shape := ⟨3, ![1, 256, 256]⟩
abbrev S256x256 : Shape := ⟨2, ![256, 256]⟩
abbrev S1x256 : Shape := ⟨2, ![1, 256]⟩
abbrev S525x256 : Shape := ⟨2, ![525, 256]⟩
abbrev S521x256 : Shape := ⟨2, ![521, 256]⟩
abbrev S513x256 : Shape := ⟨2, ![513, 256]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S4x256x256, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S2x16x1024, .f32⟩
  | .hbm, ⟨8, _⟩ => ⟨S4x256x256, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S4x256x256, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PoolRefIdeal.lean ====
abbrev S2x8192x1024 : Shape := ⟨3, ![2, 8192, 1024]⟩
abbrev S4x256x256 : Shape := ⟨3, ![4, 256, 256]⟩
abbrev S1024 : Shape := ⟨1, ![1024]⟩
abbrev S_ : Shape := ⟨0, ![]⟩
abbrev S2x8208x1024 : Shape := ⟨3, ![2, 8208, 1024]⟩
abbrev S8192 : Shape := ⟨1, ![8192]⟩
abbrev S1x8192x1 : Shape := ⟨3, ![1, 8192, 1]⟩
abbrev S2x8192x256 : Shape := ⟨3, ![2, 8192, 256]⟩
abbrev S2x8192x1x256 : Shape := ⟨4, ![2, 8192, 1, 256]⟩
abbrev S2x8192x4x256 : Shape := ⟨4, ![2, 8192, 4, 256]⟩
abbrev S4x256x2x8192 : Shape := ⟨4, ![4, 256, 2, 8192]⟩
abbrev S1x1x1024 : Shape := ⟨3, ![1, 1, 1024]⟩
abbrev S2x8192 : Shape := ⟨2, ![2, 8192]⟩
abbrev S2x8192x1 : Shape := ⟨3, ![2, 8192, 1]⟩

abbrev nBuf : Space → Nat
  | .hbm => 117
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x256x256, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S2x8192x1024, .f32⟩
  | .hbm, ⟨9, _⟩ => ⟨S_, .i32⟩
  | .hbm, ⟨10, _⟩ => ⟨S_, .f32⟩
  | .hbm, ⟨11, _⟩ => ⟨S2x8208x1024, .f32⟩
  | .hbm, ⟨12, _⟩ => ⟨S8192, .i32⟩
  | .hbm, ⟨13, _⟩ => ⟨S1x8192x1, .i32⟩
  | .hbm, ⟨14, _⟩ => ⟨S2x8192x256, .f32⟩
  | .hbm, ⟨15, _⟩ => ⟨S2x8192x256, .f32⟩
  | .hbm, ⟨16, _⟩ => ⟨S2x8192x256, .f32⟩
  | .hbm, ⟨17, _⟩ => ⟨S_, .i32⟩
  | .hbm, ⟨18, _⟩ => ⟨S1x8192x1, .i32⟩
  | .hbm, ⟨19, _⟩ => ⟨S1x8192x1, .i32⟩
  | .hbm, ⟨20, _⟩ => ⟨S_, .i32⟩
  | .hbm, ⟨21, _⟩ => ⟨S1x8192x1, .i32⟩
  | .hbm, ⟨22, _⟩ => ⟨S1x8192x1, .i32⟩
  | .hbm, ⟨23, _⟩ => ⟨S1x8192x1, .f32⟩
  | .hbm, ⟨24, _⟩ => ⟨S2x8192x256, .f32⟩
  | .hbm, ⟨25, _⟩ => ⟨S2x8192x256, .f32⟩
  | .hbm, ⟨26, _⟩ => ⟨S2x8192x256, .f32⟩
  | .hbm, ⟨27, _⟩ => ⟨S2x8192x256, .f32⟩
  | .hbm, ⟨28, _⟩ => ⟨S2x8192x256, .f32⟩
  | .hbm, ⟨29, _⟩ => ⟨S2x8192x256, .f32⟩
  | .hbm, ⟨30, _⟩ => ⟨S2x8192x256, .f32⟩
  | .hbm, ⟨31, _⟩ => ⟨S_, .i32⟩
  | .hbm, ⟨32, _⟩ => ⟨S1x8192x1, .i32⟩
  | .hbm, ⟨33, _⟩ => ⟨S1x8192x1, .i32⟩
  | .hbm, ⟨34, _⟩ => ⟨S_, .i32⟩
  | .hbm, ⟨35, _⟩ => ⟨S1x8192x1, .i32⟩
  | .hbm, ⟨36, _⟩ => ⟨S1x8192x1, .i32⟩
  | .hbm, ⟨37, _⟩ => ⟨S1x8192x1, .f32⟩
  | .hbm, ⟨38, _⟩ => ⟨S2x8192x256, .f32⟩
  | .hbm, ⟨39, _⟩ => ⟨S2x8192x256, .f32⟩
  | .hbm, ⟨40, _⟩ => ⟨S2x8192x256, .f32⟩
  | .hbm, ⟨41, _⟩ => ⟨S2x8192x256, .f32⟩
  | .hbm, ⟨42, _⟩ => ⟨S2x8192x256, .f32⟩
  | .hbm, ⟨43, _⟩ => ⟨S2x8192x256, .f32⟩
  | .hbm, ⟨44, _⟩ => ⟨S2x8192x256, .f32⟩
  | .hbm, ⟨45, _⟩ => ⟨S_, .i32⟩
  | .hbm, ⟨46, _⟩ => ⟨S1x8192x1, .i32⟩
  | .hbm, ⟨47, _⟩ => ⟨S1x8192x1, .i32⟩
  | .hbm, ⟨48, _⟩ => ⟨S_, .i32⟩
  | .hbm, ⟨49, _⟩ => ⟨S1x8192x1, .i32⟩
  | .hbm, ⟨50, _⟩ => ⟨S1x8192x1, .i32⟩
  | .hbm, ⟨51, _⟩ => ⟨S1x8192x1, .f32⟩
  | .hbm, ⟨52, _⟩ => ⟨S2x8192x256, .f32⟩
  | .hbm, ⟨53, _⟩ => ⟨S2x8192x256, .f32⟩
  | .hbm, ⟨54, _⟩ => ⟨S2x8192x256, .f32⟩
  | .hbm, ⟨55, _⟩ => ⟨S2x8192x256, .f32⟩
  | .hbm, ⟨56, _⟩ => ⟨S2x8192x256, .f32⟩
  | .hbm, ⟨57, _⟩ => ⟨S2x8192x256, .f32⟩
  | .hbm, ⟨58, _⟩ => ⟨S2x8192x256, .f32⟩
  | .hbm, ⟨59, _⟩ => ⟨S_, .i32⟩
  | .hbm, ⟨60, _⟩ => ⟨S1x8192x1, .i32⟩
  | .hbm, ⟨61, _⟩ => ⟨S1x8192x1, .i32⟩
  | .hbm, ⟨62, _⟩ => ⟨S_, .i32⟩
  | .hbm, ⟨63, _⟩ => ⟨S1x8192x1, .i32⟩
  | .hbm, ⟨64, _⟩ => ⟨S1x8192x1, .i32⟩
  | .hbm, ⟨65, _⟩ => ⟨S1x8192x1, .f32⟩
  | .hbm, ⟨66, _⟩ => ⟨S2x8192x256, .f32⟩
  | .hbm, ⟨67, _⟩ => ⟨S2x8192x256, .f32⟩
  | .hbm, ⟨68, _⟩ => ⟨S2x8192x256, .f32⟩
  | .hbm, ⟨69, _⟩ => ⟨S2x8192x256, .f32⟩
  | .hbm, ⟨70, _⟩ => ⟨S2x8192x1x256, .f32⟩
  | .hbm, ⟨71, _⟩ => ⟨S2x8192x1x256, .f32⟩
  | .hbm, ⟨72, _⟩ => ⟨S2x8192x1x256, .f32⟩
  | .hbm, ⟨73, _⟩ => ⟨S2x8192x1x256, .f32⟩
  | .hbm, ⟨74, _⟩ => ⟨S2x8192x4x256, .f32⟩
  | .hbm, ⟨75, _⟩ => ⟨S4x256x2x8192, .f32⟩
  | .hbm, ⟨76, _⟩ => ⟨S2x8192x4x256, .f32⟩
  | .hbm, ⟨77, _⟩ => ⟨S2x8192x1024, .f32⟩
  | .hbm, ⟨78, _⟩ => ⟨S1x1x1024, .f32⟩
  | .hbm, ⟨79, _⟩ => ⟨S2x8192x1024, .f32⟩
  | .hbm, ⟨80, _⟩ => ⟨S2x8192x1024, .f32⟩
  | .hbm, ⟨81, _⟩ => ⟨S_, .f32⟩
  | .hbm, ⟨82, _⟩ => ⟨S2x8192x1024, .f32⟩
  | .hbm, ⟨83, _⟩ => ⟨S2x8192x1024, .f32⟩
  | .hbm, ⟨84, _⟩ => ⟨S1x1x1024, .f32⟩
  | .hbm, ⟨85, _⟩ => ⟨S2x8192x1024, .f32⟩
  | .hbm, ⟨86, _⟩ => ⟨S2x8192x1024, .f32⟩
  | .hbm, ⟨87, _⟩ => ⟨S2x8192x1024, .f32⟩
  | .hbm, ⟨88, _⟩ => ⟨S_, .f32⟩
  | .hbm, ⟨89, _⟩ => ⟨S2x8192, .f32⟩
  | .hbm, ⟨90, _⟩ => ⟨S2x8192x1, .f32⟩
  | .hbm, ⟨91, _⟩ => ⟨S_, .f32⟩
  | .hbm, ⟨92, _⟩ => ⟨S2x8192x1, .f32⟩
  | .hbm, ⟨93, _⟩ => ⟨S2x8192x1, .f32⟩
  | .hbm, ⟨94, _⟩ => ⟨S2x8192x1024, .f32⟩
  | .hbm, ⟨95, _⟩ => ⟨S2x8192x1024, .f32⟩
  | .hbm, ⟨96, _⟩ => ⟨S2x8192x1024, .f32⟩
  | .hbm, ⟨97, _⟩ => ⟨S_, .f32⟩
  | .hbm, ⟨98, _⟩ => ⟨S2x8192, .f32⟩
  | .hbm, ⟨99, _⟩ => ⟨S2x8192x1, .f32⟩
  | .hbm, ⟨100, _⟩ => ⟨S_, .f32⟩
  | .hbm, ⟨101, _⟩ => ⟨S2x8192x1, .f32⟩
  | .hbm, ⟨102, _⟩ => ⟨S2x8192x1, .f32⟩
  | .hbm, ⟨103, _⟩ => ⟨S2x8192x1024, .f32⟩
  | .hbm, ⟨104, _⟩ => ⟨S2x8192x1024, .f32⟩
  | .hbm, ⟨105, _⟩ => ⟨S_, .f32⟩
  | .hbm, ⟨106, _⟩ => ⟨S2x8192x1, .f32⟩
  | .hbm, ⟨107, _⟩ => ⟨S2x8192x1, .f32⟩
  | .hbm, ⟨108, _⟩ => ⟨S2x8192x1, .f32⟩
  | .hbm, ⟨109, _⟩ => ⟨S2x8192x1024, .f32⟩
  | .hbm, ⟨110, _⟩ => ⟨S2x8192x1024, .f32⟩
  | .hbm, ⟨111, _⟩ => ⟨S1x1x1024, .f32⟩
  | .hbm, ⟨112, _⟩ => ⟨S2x8192x1024, .f32⟩
  | .hbm, ⟨113, _⟩ => ⟨S2x8192x1024, .f32⟩
  | .hbm, ⟨114, _⟩ => ⟨S1x1x1024, .f32⟩
  | .hbm, ⟨115, _⟩ => ⟨S2x8192x1024, .f32⟩
  | .hbm, ⟨116, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_cst : Ref sig .tc := ⟨.hbm, 6, rfl⟩
abbrev main_call0_call0_v0 : Ref sig .tc := ⟨.hbm, 7, rfl⟩
abbrev main_v0 : Ref sig .tc := ⟨.hbm, 8, rfl⟩
abbrev main_c : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_12 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩

abbrev nD : Nat := 1
abbrev τ : Topo := Topo.v7x

variable {F : FTy → Type} [FloatOps F]
-- ==== Ffn.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S2x8x5632 : Shape := ⟨3, ![2, 8, 5632]⟩
abbrev S1x1024 : Shape := ⟨2, ![1, 1024]⟩
abbrev S1x5632 : Shape := ⟨2, ![1, 5632]⟩
abbrev S16x8x2816 : Shape := ⟨3, ![16, 8, 2816]⟩
abbrev S1024x1024 : Shape := ⟨2, ![1024, 1024]⟩
abbrev S8x1024 : Shape := ⟨2, ![8, 1024]⟩
abbrev S1x8x256 : Shape := ⟨3, ![1, 8, 256]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S1032x1024 : Shape := ⟨2, ![1032, 1024]⟩
abbrev S1032x256 : Shape := ⟨2, ![1032, 256]⟩
abbrev S8x256 : Shape := ⟨2, ![8, 256]⟩
abbrev S1024x1 : Shape := ⟨2, ![1024, 1]⟩

abbrev nBuf : Space → Nat
  | .hbm => 17
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S2x8x5632, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S1x5632, .f32⟩
  | .hbm, ⟨14, _⟩ => ⟨S16384x1024, .f32⟩
  | .hbm, ⟨15, _⟩ => ⟨S16x8x2816, .f32⟩
  | .hbm, ⟨16, _⟩ => ⟨S16x8x2816, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S1x8x256, .f32⟩
  | .local _ .vmem, ⟨27, _⟩ => ⟨S1x8x256, .f32⟩
  | .local _ .vmem, ⟨28, _⟩ => ⟨S1x8x256, .f32⟩
  | .local _ .vmem, ⟨29, _⟩ => ⟨S1x8x256, .f32⟩
  | .local _ .vmem, ⟨30, _⟩ => ⟨S1032x1024, .bf16⟩
  | .local _ .vmem, ⟨31, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v103 : BitVec 1 := Scalar.cmpi .eq arg1 c10_i32
  let v104 : BitVec 32 := Scalar.extui v103
  let c0_i32_45 : BitVec 32 := 0#32
  let v105 : BitVec 1 := Scalar.cmpi .ne v104 c0_i32_45
  v105

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg1 c0_i32_4
  let c0_i32_5 : BitVec 32 := 0#32
  let c0_i32_6 : BitVec 32 := 0#32
  ![v16.toNat, c0_i32_5.toNat, v17.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32 : BitVec 32 := 11#32
  let v17 : BitVec 32 := Scalar.addi arg1 c11_i32
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== FfnRefIdeal.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S2x8192x1024 : Shape := ⟨3, ![2, 8192, 1024]⟩
abbrev S2x8192x5632 : Shape := ⟨3, ![2, 8192, 5632]⟩
abbrev S_ : Shape := ⟨0, ![]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S2x8192 : Shape := ⟨2, ![2, 8192]⟩
abbrev S2x8192x1 : Shape := ⟨3, ![2, 8192, 1]⟩
abbrev S1x1x1024 : Shape := ⟨3, ![1, 1, 1024]⟩
abbrev S16x1024x5632 : Shape := ⟨3, ![16, 1024, 5632]⟩
abbrev S16x8x5632 : Shape := ⟨3, ![16, 8, 5632]⟩
abbrev S16x8x2816 : Shape := ⟨3, ![16, 8, 2816]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S2x8192x1024, .f32⟩
  | .hbm, ⟨8, _⟩ => ⟨S2x8192x5632, .f32⟩
  | .hbm, ⟨9, _⟩ => ⟨S_, .i32⟩
  | .hbm, ⟨10, _⟩ => ⟨S_, .f32⟩
  | .hbm, ⟨11, _⟩ => ⟨S2x8194x5632, .f32⟩
  | .hbm, ⟨12, _⟩ => ⟨S1x5632, .f32⟩
  | .hbm, ⟨13, _⟩ => ⟨S5632, .f32⟩
  | .hbm, ⟨14, _⟩ => ⟨S2x8192x5632, .f32⟩
  | .hbm, ⟨15, _⟩ => ⟨S1x1x5632, .f32⟩
  | .hbm, ⟨16, _⟩ => ⟨S2x8192x5632, .f32⟩
  | .hbm, ⟨17, _⟩ => ⟨S2x8192x5632, .f32⟩
  | .hbm, ⟨18, _⟩ => ⟨S1x1x5632, .f32⟩
  | .hbm, ⟨19, _⟩ => ⟨S2x8192x5632, .f32⟩
  | .hbm, ⟨20, _⟩ => ⟨S2x8192x5632, .f32⟩
  | .hbm, ⟨21, _⟩ => ⟨S1x5632, .f32⟩
  | .hbm, ⟨22, _⟩ => ⟨S5632, .f32⟩
  | .hbm, ⟨23, _⟩ => ⟨S2x8192x5632, .f32⟩
  | .hbm, ⟨24, _⟩ => ⟨S1x1x5632, .f32⟩
  | .hbm, ⟨25, _⟩ => ⟨S2x8192x5632, .f32⟩
  | .hbm, ⟨26, _⟩ => ⟨S2x8192x5632, .f32⟩
  | .hbm, ⟨27, _⟩ => ⟨S2x8192x5632, .f32⟩
  | .hbm, ⟨28, _⟩ => ⟨S1x5632, .f32⟩
  | .hbm, ⟨29, _⟩ => ⟨S5632, .f32⟩
  | .hbm, ⟨30, _⟩ => ⟨S2x8192x5632, .f32⟩
  | .hbm, ⟨31, _⟩ => ⟨S1x1x5632, .f32⟩
  | .hbm, ⟨32, _⟩ => ⟨S2x8192x5632, .f32⟩
  | .hbm, ⟨33, _⟩ => ⟨S2x8192x5632, .f32⟩
  | .hbm, ⟨34, _⟩ => ⟨S2x8192x5632, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S_, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S_, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S_, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S_, .f32⟩
  | .hbm, ⟨70, _⟩ => ⟨S2x8192, .f32⟩
  | .hbm, ⟨71, _⟩ => ⟨S2x8192x1, .f32⟩
  | .hbm, ⟨72, _⟩ => ⟨S_, .f32⟩
  | .hbm, ⟨73, _⟩ => ⟨S2x8192x1, .f32⟩
  | .hbm, ⟨74, _⟩ => ⟨S2x8192x1, .f32⟩
  | .hbm, ⟨75, _⟩ => ⟨S2x8192x1024, .f32⟩
  | .hbm, ⟨76, _⟩ => ⟨S2x8192x1024, .f32⟩
  | .hbm, ⟨77, _⟩ => ⟨S_, .f32⟩
  | .hbm, ⟨78, _⟩ => ⟨S2x8192x1, .f32⟩
  | .hbm, ⟨79, _⟩ => ⟨S2x8192x1, .f32⟩
  | .hbm, ⟨80, _⟩ => ⟨S2x8192x1, .f32⟩
  | .hbm, ⟨81, _⟩ => ⟨S2x8192x1024, .f32⟩
  | .hbm, ⟨82, _⟩ => ⟨S2x8192x1024, .f32⟩
  | .hbm, ⟨83, _⟩ => ⟨S1x1x1024, .f32⟩
  | .hbm, ⟨84, _⟩ => ⟨S2x8192x1024, .f32⟩
  | .hbm, ⟨85, _⟩ => ⟨S2x8192x1024, .f32⟩
  | .hbm, ⟨86, _⟩ => ⟨S1x1x1024, .f32⟩
  | .hbm, ⟨87, _⟩ => ⟨S2x8192x1024, .f32⟩
  | .hbm, ⟨88, _⟩ => ⟨S2x8192x1024, .f32⟩
  | .hbm, ⟨89, _⟩ => ⟨S16x1024x5632, .f32⟩
  | .hbm, ⟨90, _⟩ => ⟨S16x8x5632, .f32⟩
  | .hbm, ⟨91, _⟩ => ⟨S16384x1024, .f32⟩
  | .hbm, ⟨92, _⟩ => ⟨S16x8x2816, .f32⟩
  | .hbm, ⟨93, _⟩ => ⟨S16x8x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Ple.lean ====
abbrev S16384x1024 : Shape := ⟨2, ![16384, 1024]⟩
abbrev S4x2x8192x256 : Shape := ⟨4, ![4, 2, 8192, 256]⟩
abbrev S1024x1024 : Shape := ⟨2, ![1024, 1024]⟩
abbrev S1024 : Shape := ⟨1, ![1024]⟩
abbrev S256x1024 : Shape := ⟨2, ![256, 1024]⟩
abbrev S4x16384x256 : Shape := ⟨3, ![4, 16384, 256]⟩
abbrev S1x1024 : Shape := ⟨2, ![1, 1024]⟩
abbrev S512x1024 : Shape := ⟨2, ![512, 1024]⟩
abbrev S1x512x256 : Shape := ⟨3, ![1, 512, 256]⟩
abbrev S512x256 : Shape := ⟨2, ![512, 256]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4x2x8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S4x16384x256, .f32⟩
  | .hbm, ⟨6, _⟩ => ⟨S1024x1024, .bf16⟩
  | .hbm, ⟨7, _⟩ => ⟨S1x1024, .f32⟩
  | .hbm, ⟨8, _⟩ => ⟨S256x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S16384x1024 : Shape := ⟨2, ![16384, 1024]⟩
abbrev S4x2x8192x256 : Shape := ⟨4, ![4, 2, 8192, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S_ : Shape := ⟨0, ![]⟩
abbrev S1x2x8192x256 : Shape := ⟨4, ![1, 2, 8192, 256]⟩
abbrev S2x8192x256 : Shape := ⟨3, ![2, 8192, 256]⟩
abbrev S16384x256 : Shape := ⟨2, ![16384, 256]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x2x8192x256, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S1x2x8192x256, .f32⟩
  | .hbm, ⟨18, _⟩ => ⟨S2x8192x256, .f32⟩
  | .hbm, ⟨19, _⟩ => ⟨S16384x256, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kv.lean ====
abbrev S16384x1024 : Shape := ⟨2, ![16384, 1024]⟩
abbrev S1024x2608 : Shape := ⟨2, ![1024, 2608]⟩
abbrev S1024x1536 : Shape := ⟨2, ![1024, 1536]⟩
abbrev S1536x1024 : Shape := ⟨2, ![1536, 1024]⟩
abbrev S2x1536x8192 : Shape := ⟨3, ![2, 1536, 8192]⟩
abbrev S512x1024 : Shape := ⟨2, ![512, 1024]⟩
abbrev S1x512x512 : Shape := ⟨3, ![1, 512, 512]⟩
abbrev S512x512 : Shape := ⟨2, ![512, 512]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x2608, .f32⟩
  | .hbm, ⟨2, _⟩ => ⟨S1024x1536, .f32⟩
  | .hbm, ⟨3, _⟩ => ⟨S1536x1024, .f32⟩
  | .hbm, ⟨4, _⟩ => ⟨S1536x1024, .bf16⟩
  | .hbm, ⟨5, _⟩ => ⟨S2x1536x8192, .f32⟩
  | .hbm, ⟨6, _⟩ => ⟨S2x1536x8192, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S16384x1024 : Shape := ⟨2, ![16384, 1024]⟩
abbrev S1024x2608 : Shape := ⟨2, ![1024, 2608]⟩
abbrev S2x8192x1024 : Shape := ⟨3, ![2, 8192, 1024]⟩
abbrev S2x8192x2608 : Shape := ⟨3, ![2, 8192, 2608]⟩
abbrev S2x8192x1536 : Shape := ⟨3, ![2, 8192, 1536]⟩
abbrev S2x1536x8192 : Shape := ⟨3, ![2, 1536, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2608, .f32⟩
  | .hbm, ⟨2, _⟩ => ⟨S2x8192x1024, .f32⟩
  | .hbm, ⟨3, _⟩ => ⟨S2x8192x2608, .f32⟩
  | .hbm, ⟨4, _⟩ => ⟨S2x8192x1536, .f32⟩
  | .hbm, ⟨5, _⟩ => ⟨S2x1536x8192, .f32⟩
  | .hbm, ⟨6, _⟩ => ⟨S2x1536x8192, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kvs.lean ====
abbrev S256x1024 : Shape := ⟨2, ![256, 1024]⟩
abbrev S1024x2608 : Shape := ⟨2, ![1024, 2608]⟩
abbrev S1024x1536 : Shape := ⟨2, ![1024, 1536]⟩
abbrev S256x1536 : Shape := ⟨2, ![256, 1536]⟩
abbrev S1024x512 : Shape := ⟨2, ![1024, 512]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x2608, .f32⟩
  | .hbm, ⟨2, _⟩ => ⟨S1024x1536, .f32⟩
  | .hbm, ⟨3, _⟩ => ⟨S1024x1536, .bf16⟩
  | .hbm, ⟨4, _⟩ => ⟨S256x1536, .f32⟩
  | .local _ .vmem, ⟨0, _⟩ => ⟨S256x1024, .f32⟩
  | .local _ .vmem, ⟨1, _⟩ => ⟨S1024x512, .bf16⟩
  | .local _ .vmem, ⟨2, _⟩ => ⟨S1024x512, .bf16⟩
  | .local _ .vmem, ⟨3, _⟩ => ⟨S256x512, .f32⟩
  | .local _ .vmem, ⟨4, _⟩ => ⟨S256x512, .f32⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvsRefIdeal.lean ====
abbrev S256x1024 : Shape := ⟨2, ![256, 1024]⟩
abbrev S1024x2608 : Shape := ⟨2, ![1024, 2608]⟩
abbrev S256x2608 : Shape := ⟨2, ![256, 2608]⟩
abbrev S256x1536 : Shape := ⟨2, ![256, 1536]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2608, .f32⟩
  | .hbm, ⟨2, _⟩ => ⟨S256x2608, .f32⟩
  | .hbm, ⟨3, _⟩ => ⟨S256x1536, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S16384x1024 : Shape := ⟨2, ![16384, 1024]⟩
abbrev S1024x1024 : Shape := ⟨2, ![1024, 1024]⟩
abbrev S1024 : Shape := ⟨1, ![1024]⟩
abbrev S16384x2x4x2x64 : Shape := ⟨5, ![16384, 2, 4, 2, 64]⟩
abbrev S16384x2x2x4x64 : Shape := ⟨5, ![16384, 2, 2, 4, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S16384x2x4x2x64, .bf16⟩
  | .hbm, ⟨6, _⟩ => ⟨S16384x2x2x4x64, .bf16⟩
  | .hbm, ⟨7, _⟩ => ⟨S16384x1024, .bf16⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Ffs.lean ====
abbrev S256x1024 : Shape := ⟨2, ![256, 1024]⟩
abbrev S32x2x5632 : Shape := ⟨3, ![32, 2, 5632]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S32x8x5632 : Shape := ⟨3, ![32, 8, 5632]⟩
abbrev S1x1024 : Shape := ⟨2, ![1, 1024]⟩
abbrev S1x5632 : Shape := ⟨2, ![1, 5632]⟩
abbrev S256x2816 : Shape := ⟨2, ![256, 2816]⟩
abbrev S32x8x256 : Shape := ⟨3, ![32, 8, 256]⟩
abbrev S1024x256 : Shape := ⟨2, ![1024, 256]⟩
abbrev S3x256 : Shape := ⟨2, ![3, 256]⟩
abbrev S1x256 : Shape := ⟨2, ![1, 256]⟩
abbrev S256x256 : Shape := ⟨2, ![256, 256]⟩
abbrev S1x1x256 : Shape := ⟨3, ![1, 1, 256]⟩
abbrev S256 : Shape := ⟨1, ![256]⟩
abbrev S256x1 : Shape := ⟨2, ![256, 1]⟩

abbrev nBuf : Space → Nat
  | .hbm => 19
  | .vmem => 28
  | .smem => 0
  | _ => 0

abbrev bufTy : (tb : Table) → Fin (tcTables nBuf tb) → BufTy
  | .hbm, ⟨0, _⟩ => ⟨S256x1024, .f32⟩
  | .hbm, ⟨1, _⟩ => ⟨S32x2x5632, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S32x8x5632, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S1x5632, .f32⟩
  | .hbm, ⟨16, _⟩ => ⟨S256x1024, .f32⟩
  | .hbm, ⟨17, _⟩ => ⟨S256x2816, .f32⟩
  | .hbm, ⟨18, _⟩ => ⟨S256x2816, .f32⟩
  | .local _ .vmem, ⟨0, _⟩ => ⟨S256x1024, .f32⟩
  | .local _ .vmem, ⟨1, _⟩ => ⟨S32x8x256, .f32⟩
  | .local _ .vmem, ⟨2, _⟩ => ⟨S32x8x256, .f32⟩
  | .local _ .vmem, ⟨3, _⟩ => ⟨S32x8x256, .f32⟩
  | .local _ .vmem, ⟨4, _⟩ => ⟨S32x8x256, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S1x1024, .f32⟩
  | .local _ .vmem, ⟨21, _⟩ => ⟨S256x1024, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x1024, .bf16⟩
  | .local _ .vmem, ⟨27, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v106 : BitVec 1 := Scalar.cmpi .eq arg0 c10_i32
  let v107 : BitVec 32 := Scalar.extui v106
  let c0_i32_48 : BitVec 32 := 0#32
  let v108 : BitVec 1 := Scalar.cmpi .ne v107 c0_i32_48
  v108

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfsRefIdeal.lean ====
abbrev S256x1024 : Shape := ⟨2, ![256, 1024]⟩
abbrev S32x2x5632 : Shape := ⟨3, ![32, 2, 5632]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S32x8x1024 : Shape := ⟨3, ![32, 8, 1024]⟩
abbrev S32x8x5632 : Shape := ⟨3, ![32, 8, 5632]⟩
abbrev S32x10x5632 : Shape := ⟨3, ![32, 10, 5632]⟩
abbrev S1x5632 : Shape := ⟨2, ![1, 5632]⟩
abbrev S1x1x5632 : Shape := ⟨3, ![1, 1, 5632]⟩
abbrev S32x8x2816 : Shape := ⟨3, ![32, 8, 2816]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S256x5632 : Shape := ⟨2, ![256, 5632]⟩
abbrev S256x2816 : Shape := ⟨2, ![256, 2816]⟩

abbrev nBuf : Space → Nat
  | .hbm => 93
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S32x2x5632, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S32x8x1024, .f32⟩
  | .hbm, ⟨9, _⟩ => ⟨S32x8x5632, .f32⟩
  | .hbm, ⟨10, _⟩ => ⟨S32x10x5632, .f32⟩
  | .hbm, ⟨11, _⟩ => ⟨S1x5632, .f32⟩
  | .hbm, ⟨12, _⟩ => ⟨S5632, .f32⟩
  | .hbm, ⟨13, _⟩ => ⟨S32x8x5632, .f32⟩
  | .hbm, ⟨14, _⟩ => ⟨S1x1x5632, .f32⟩
  | .hbm, ⟨15, _⟩ => ⟨S32x8x5632, .f32⟩
  | .hbm, ⟨16, _⟩ => ⟨S32x8x5632, .f32⟩
  | .hbm, ⟨17, _⟩ => ⟨S1x1x5632, .f32⟩
  | .hbm, ⟨18, _⟩ => ⟨S32x8x5632, .f32⟩
  | .hbm, ⟨19, _⟩ => ⟨S32x8x5632, .f32⟩
  | .hbm, ⟨20, _⟩ => ⟨S1x5632, .f32⟩
  | .hbm, ⟨21, _⟩ => ⟨S5632, .f32⟩
  | .hbm, ⟨22, _⟩ => ⟨S32x8x5632, .f32⟩
  | .hbm, ⟨23, _⟩ => ⟨S1x1x5632, .f32⟩
  | .hbm, ⟨24, _⟩ => ⟨S32x8x5632, .f32⟩
  | .hbm, ⟨25, _⟩ => ⟨S32x8x5632, .f32⟩
  | .hbm, ⟨26, _⟩ => ⟨S32x8x5632, .f32⟩
  | .hbm, ⟨27, _⟩ => ⟨S1x5632, .f32⟩
  | .hbm, ⟨28, _⟩ => ⟨S5632, .f32⟩
  | .hbm, ⟨29, _⟩ => ⟨S32x8x5632, .f32⟩
  | .hbm, ⟨30, _⟩ => ⟨S1x1x5632, .f32⟩
  | .hbm, ⟨31, _⟩ => ⟨S32x8x5632, .f32⟩
  | .hbm, ⟨32, _⟩ => ⟨S32x8x5632, .f32⟩
  | .hbm, ⟨33, _⟩ => ⟨S32x8x5632, .f32⟩
  | .hbm, ⟨34, _⟩ => ⟨S32x8x2816, .f32⟩
  | .hbm, ⟨35, _⟩ => ⟨S32x8x2816, .f32⟩
  | .hbm, ⟨36, _⟩ => ⟨S32x8x2816, .f32⟩
  | .hbm, ⟨37, _⟩ => ⟨S_, .f32⟩
  | .hbm, ⟨38, _⟩ => ⟨S32x8x2816, .f32⟩
  | .hbm, ⟨39, _⟩ => ⟨S32x8x2816, .f32⟩
  | .hbm, ⟨40, _⟩ => ⟨S32x8x2816, .f32⟩
  | .hbm, ⟨41, _⟩ => ⟨S_, .f32⟩
  | .hbm, ⟨42, _⟩ => ⟨S32x8x2816, .f32⟩
  | .hbm, ⟨43, _⟩ => ⟨S32x8x2816, .f32⟩
  | .hbm, ⟨44, _⟩ => ⟨S32x8x2816, .f32⟩
  | .hbm, ⟨45, _⟩ => ⟨S_, .f32⟩
  | .hbm, ⟨46, _⟩ => ⟨S32x8x2816, .f32⟩
  | .hbm, ⟨47, _⟩ => ⟨S32x8x2816, .f32⟩
  | .hbm, ⟨48, _⟩ => ⟨S_, .f32⟩
  | .hbm, ⟨49, _⟩ => ⟨S32x8x2816, .f32⟩
  | .hbm, ⟨50, _⟩ => ⟨S32x8x2816, .f32⟩
  | .hbm, ⟨51, _⟩ => ⟨S32x8x2816, .f32⟩
  | .hbm, ⟨52, _⟩ => ⟨S32x8x2816, .f32⟩
  | .hbm, ⟨53, _⟩ => ⟨S32x8x2816, .f32⟩
  | .hbm, ⟨54, _⟩ => ⟨S_, .f32⟩
  | .hbm, ⟨55, _⟩ => ⟨S32x8x1024, .f32⟩
  | .hbm, ⟨56, _⟩ => ⟨S32x8x1024, .f32⟩
  | .hbm, ⟨57, _⟩ => ⟨S32x8x1024, .f32⟩
  | .hbm, ⟨58, _⟩ => ⟨S32x8x1024, .f32⟩
  | .hbm, ⟨59, _⟩ => ⟨S_, .f32⟩
  | .hbm, ⟨60, _⟩ => ⟨S32x8, .f32⟩
  | .hbm, ⟨61, _⟩ => ⟨S32x8x1, .f32⟩
  | .hbm, ⟨62, _⟩ => ⟨S_, .f32⟩
  | .hbm, ⟨63, _⟩ => ⟨S32x8x1, .f32⟩
  | .hbm, ⟨64, _⟩ => ⟨S32x8x1, .f32⟩
  | .hbm, ⟨65, _⟩ => ⟨S32x8x1024, .f32⟩
  | .hbm, ⟨66, _⟩ => ⟨S32x8x1024, .f32⟩
  | .hbm, ⟨67, _⟩ => ⟨S32x8x1024, .f32⟩
  | .hbm, ⟨68, _⟩ => ⟨S_, .f32⟩
  | .hbm, ⟨69, _⟩ => ⟨S32x8, .f32⟩
  | .hbm, ⟨70, _⟩ => ⟨S32x8x1, .f32⟩
  | .hbm, ⟨71, _⟩ => ⟨S_, .f32⟩
  | .hbm, ⟨72, _⟩ => ⟨S32x8x1, .f32⟩
  | .hbm, ⟨73, _⟩ => ⟨S32x8x1, .f32⟩
  | .hbm, ⟨74, _⟩ => ⟨S32x8x1024, .f32⟩
  | .hbm, ⟨75, _⟩ => ⟨S32x8x1024, .f32⟩
  | .hbm, ⟨76, _⟩ => ⟨S_, .f32⟩
  | .hbm, ⟨77, _⟩ => ⟨S32x8x1, .f32⟩
  | .hbm, ⟨78, _⟩ => ⟨S32x8x1, .f32⟩
  | .hbm, ⟨79, _⟩ => ⟨S32x8x1, .f32⟩
  | .hbm, ⟨80, _⟩ => ⟨S32x8x1024, .f32⟩
  | .hbm, ⟨81, _⟩ => ⟨S32x8x1024, .f32⟩
  | .hbm, ⟨82, _⟩ => ⟨S1x1x1024, .f32⟩
  | .hbm, ⟨83, _⟩ => ⟨S32x8x1024, .f32⟩
  | .hbm, ⟨84, _⟩ => ⟨S32x8x1024, .f32⟩
  | .hbm, ⟨85, _⟩ => ⟨S1x1x1024, .f32⟩
  | .hbm, ⟨86, _⟩ => ⟨S32x8x1024, .f32⟩
  | .hbm, ⟨87, _⟩ => ⟨S32x8x1024, .f32⟩
  | .hbm, ⟨88, _⟩ => ⟨S32x8x5632, .f32⟩
  | .hbm, ⟨89, _⟩ => ⟨S256x5632, .f32⟩
  | .hbm, ⟨90, _⟩ => ⟨S256x1024, .f32⟩
  | .hbm, ⟨91, _⟩ => ⟨S256x2816, .f32⟩
  | .hbm, ⟨92, _⟩ => ⟨S256x2816, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Qs.lean ====
abbrev S256x1024 : Shape := ⟨2, ![256, 1024]⟩
abbrev S1024x2608 : Shape := ⟨2, ![1024, 2608]⟩
abbrev S1024 : Shape := ⟨1, ![1024]⟩
abbrev S1024x1024 : Shape := ⟨2, ![1024, 1024]⟩
abbrev S_ : Shape := ⟨0, ![]⟩
abbrev S1024x1 : Shape := ⟨2, ![1024, 1]⟩
abbrev S1024x512 : Shape := ⟨2, ![1024, 512]⟩
abbrev S256x512 : Shape := ⟨2, ![256, 512]⟩

abbrev nBuf : Space → Nat
  | .hbm => 13
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x2608, .f32⟩
  | .hbm, ⟨2, _⟩ => ⟨S1024, .i32⟩
  | .hbm, ⟨3, _⟩ => ⟨S1024, .i1⟩
  | .hbm, ⟨4, _⟩ => ⟨S1024x1024, .f32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | .hbm, ⟨11, _⟩ => ⟨S1024x1024, .bf16⟩
  | .hbm, ⟨12, _⟩ => ⟨S256x1024, .bf16⟩
  | .local _ .vmem, ⟨0, _⟩ => ⟨S256x1024, .f32⟩
  | .local _ .vmem, ⟨1, _⟩ => ⟨S1024x512, .bf16⟩
  | .local _ .vmem, ⟨2, _⟩ => ⟨S1024x512, .bf16⟩
  | .local _ .vmem, ⟨3, _⟩ => ⟨S256x512, .bf16⟩
  | .local _ .vmem, ⟨4, _⟩ => ⟨S256x512, .bf16⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QsRefIdeal.lean ====
abbrev S256x1024 : Shape := ⟨2, ![256, 1024]⟩
abbrev S1024x2608 : Shape := ⟨2, ![1024, 2608]⟩
abbrev S256x2608 : Shape := ⟨2, ![256, 2608]⟩
abbrev S_ : Shape := ⟨0, ![]⟩
abbrev S256x2x2x4x64 : Shape := ⟨5, ![256, 2, 2, 4, 64]⟩
abbrev S256x2x4x2x64 : Shape := ⟨5, ![256, 2, 4, 2, 64]⟩

abbrev nBuf : Space → Nat
  | .hbm => 11
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2608, .f32⟩
  | .hbm, ⟨2, _⟩ => ⟨S256x2608, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S256x2x2x4x64, .f32⟩
  | .hbm, ⟨8, _⟩ => ⟨S256x2x4x2x64, .f32⟩
  | .hbm, ⟨9, _⟩ => ⟨S256x1024, .f32⟩
  | .hbm, ⟨10, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gs.lean ====
abbrev S256x1024 : Shape := ⟨2, ![256, 1024]⟩
abbrev S1024x2608 : Shape := ⟨2, ![1024, 2608]⟩
abbrev S1024x48 : Shape := ⟨2, ![1024, 48]⟩
abbrev S256x48 : Shape := ⟨2, ![256, 48]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x2608, .f32⟩
  | .hbm, ⟨2, _⟩ => ⟨S1024x48, .f32⟩
  | .hbm, ⟨3, _⟩ => ⟨S1024x48, .bf16⟩
  | .hbm, ⟨4, _⟩ => ⟨S256x48, .f32⟩
  | .local _ .vmem, ⟨0, _⟩ => ⟨S256x1024, .f32⟩
  | .local _ .vmem, ⟨1, _⟩ => ⟨S1024x48, .bf16⟩
  | .local _ .vmem, ⟨2, _⟩ => ⟨S256x48, .f32⟩
  | .local _ .vmem, ⟨3, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== GsRefIdeal.lean ====
abbrev S256x1024 : Shape := ⟨2, ![256, 1024]⟩
abbrev S1024x2608 : Shape := ⟨2, ![1024, 2608]⟩
abbrev S256x2608 : Shape := ⟨2, ![256, 2608]⟩
abbrev S256x48 : Shape := ⟨2, ![256, 48]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2608, .f32⟩
  | .hbm, ⟨2, _⟩ => ⟨S256x2608, .f32⟩
  | .hbm, ⟨3, _⟩ => ⟨S256x48, .f32⟩
  | .hbm, ⟨4, _⟩ => ⟨S256x48, .f32⟩
  | .hbm, ⟨5, _⟩ => ⟨S256x48, .f32⟩
  | .hbm, ⟨6, _⟩ => ⟨S_, .f32⟩
  | .hbm, ⟨7, _⟩ => ⟨S256x48, .f32⟩
  | .hbm, ⟨8, _⟩ => ⟨S256x48, .f32⟩
  | .hbm, ⟨9, _⟩ => ⟨S_, .f32⟩
  | .hbm, ⟨10, _⟩ => ⟨S256x48, .f32⟩
  | .hbm, ⟨11, _⟩ => ⟨S256x48, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.PleValue.lean ====
/- The value of the per-layer-embedding kernel: its result array is the reference's term, block by block. -/
module

public import proofs.«01_k».proof.Proof.Gen.PleIdeal.Value
public import proofs.«01_k».proof.Proof.Gen.PleRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.PleIdeal Cert.PleIdeal.Gen

namespace Cert.PleProof

/-- The reference's result: `x + sigmoid (x wg + bg) * (p[3] wp)`, as the printed operations compose it. -/
def REF (x : FVec Ideal Cert.PleRefIdeal.S16384x1024 .f32) (p : FVec Ideal Cert.PleRefIdeal.S4x2x8192x256 .f32)
    (wg : FVec Ideal Cert.PleRefIdeal.S1024x1024 .f32) (bg : FVec Ideal Cert.PleRefIdeal.S1024 .f32)
    (wp : FVec Ideal Cert.PleRefIdeal.S256x1024 .f32) : FVec Ideal Cert.PleRefIdeal.S16384x1024 .f32 :=
  addf x (mulf
    (Host.divf
      (broadcastInDim Cert.PleRefIdeal.S16384x1024 ![] Cert.PleRefIdeal.Gen.bcast_S_S16384x1024
        (constant Cert.PleRefIdeal.S_ .f32 0x3F800000#32))
      (addf
        (broadcastInDim Cert.PleRefIdeal.S16384x1024 ![] Cert.PleRefIdeal.Gen.bcast_S_S16384x1024
          (constant Cert.PleRefIdeal.S_ .f32 0x3F800000#32))
        (Host.exp (Host.negf (addf
          (Host.dotGeneral Cert.PleRefIdeal.dot_S16384x1024_S1024x1024_S16384x1024_1_0_0_1_n_n none x wg)
          (broadcastInDim Cert.PleRefIdeal.S16384x1024 ![0, 1] Cert.PleRefIdeal.Gen.bcast_S1x1024_S16384x1024_0_1
            (broadcastInDim Cert.PleRefIdeal.S1x1024 ![1] Cert.PleRefIdeal.Gen.bcast_S1024_S1x1024_1 bg)))))))
    (Host.dotGeneral Cert.PleRefIdeal.dot_S16384x256_S256x1024_S16384x1024_1_0_0_1_n_n none
      (shapeCast _ (shapeCast _
        (extractStridedSlice Cert.PleRefIdeal.S1x2x8192x256 ![3, 0, 0, 0] p
          Cert.PleRefIdeal.Gen.slices_S4x2x8192x256_S1x2x8192x256_3_0_0_0)
        Cert.PleRefIdeal.Gen.shapeCasts_S1x2x8192x256_S2x8192x256)
        Cert.PleRefIdeal.Gen.shapeCasts_S2x8192x256_S16384x256) wp))

/-- Which block of its array each window stages at a grid point: rows move with the point, weights stay. -/
theorem idx : ∀ t : Fin cfg0.N, win0_0.index t = ![t.val, 0] ∧ win0_1.index t = ![3, t.val, 0]
    ∧ win0_2.index t = ![0, 0] ∧ win0_3.index t = ![0, 0] ∧ win0_4.index t = ![0, 0]
    ∧ win0_5.index t = ![t.val, 0] :=
  (by decide +kernel : ∀ t : Fin grid0.N, _)

variable (m : (ℓ : Loc nD τ sig) → Buf (Elt Ideal) ℓ)

/-- What the body stores at an entry of the block of point `t` is the reference at the array entry it sits at. -/
theorem point (c : Dev nD) (t : Fin cfg0.N) (y) :
    k0_pay1 (iblk m c 0 t) (iblk m c 2 t) (iblk m c 3 t) (iblk m c 1 t) (iblk m c 4 t) y
      = REF (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 5).blk t).view.emb y) := by
  pointwise [k0_pay1, REF]
  simp only [Ideal.logistic]
  blk_point [iblk, V, idx t]

/-- The kernel's result array after the run is the reference's result. -/
theorem final (c : Dev nD) : (dats m 0 c).arrAt 5 (cfgs 0).N
    = REF (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp; rw [after0_5]; frame_out
  exact point m c t y

end Cert.PleProof

end
-- ==== Proof.Counters.lean ====
/- A host program declares no semaphore: its counters end at zero with any run of it. -/
module

public import Idealize.ShloMosaic.Lib.StableHlo.Run
public import Idealize.ShloMosaic.Lib.Claim
public import Idealize.ShloMosaic.Lib.Quiescent

@[expose] public section

noncomputable section

open Idealize.ShloMosaic Idealize.SL.Sem

namespace Cert.Proof

/-- A run of a program without semaphores also ends with every semaphore counter at zero. -/
theorem run_counters {nD : Nat} {τ : Topo} {sig : RefSig} {Val : EltTy → Type} {Λ : Labels}
    {defs : Defs nD τ sig Val Λ} {p : (c : Thread nD τ) → Prog (TpuEff nD τ sig Val Λ c.2) PUnit}
    {s : MemSt nD τ sig Val} {Q : PUnit × MemSt nD τ sig Val → Prop} (h : sig.nSem + sig.nDmaSem = 0)
    (run : θ_run defs p s Q) : θ_run defs p s fun r => Q r ∧ r.2.sem = fun _ => 0 :=
  (θ_run defs _ _).mono (fun r hr => ⟨hr, sem_eq_zero_of_no_sems h r.2⟩) run

end Cert.Proof

end
-- ==== Proof.PleClaim.lean ====
/- The value claim of the per-layer-embedding call. -/
module

public import proofs.«01_k».proof.Defs
public import proofs.«01_k».proof.Proof.PleValue
public import proofs.«01_k».proof.Proof.Counters
public import Idealize.ShloMosaic.Lib.Claim

@[expose] public section

set_option maxRecDepth 16384

noncomputable section

open Idealize.ShloMosaic Idealize.ShloMosaic.TcCoe Idealize.SL.Sem

namespace Cert.Proof

/-- The per-layer-embedding kernel and its reference end with the same result. -/
theorem algebraic_Ple : Cert.algebraic_PleIdeal_PleRefIdeal := by
  pair_intro
  · run_from Cert.PleIdeal.Gen.run_main m g
  · hlo_run
    exact (Cert.PleProof.final m c).symm

/-- The per-layer-embedding reference ends, faults nowhere and leaves its arguments as they were. -/
theorem quiescent_PleRef : Cert.quiescent_PleRefIdeal := by
  intro m g _
  refine run_counters (by decide) ?_
  hlo_run

end Cert.Proof

end
-- ==== Proof.KvValue.lean ====
/- The keys and values of an attention layer (prompt): the kernel's two arrays are the reference's projection, feature by token. -/
module

public import proofs.«01_k».proof.Proof.Gen.KvIdeal.Value
public import proofs.«01_k».proof.Proof.Gen.KvRefIdeal.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.KvIdeal Cert.KvIdeal.Gen

namespace Cert.KvProof

/-- The reference's keys and values, as the printed operations compose them. -/
def REF (x : FVec Ideal Cert.KvRefIdeal.S16384x1024 .f32) (w : FVec Ideal Cert.KvRefIdeal.S1024x2608 .f32) :
    FVec Ideal Cert.KvRefIdeal.S2x1536x8192 .f32 :=
  transpose Cert.KvRefIdeal.S2x1536x8192 [0, 2, 1]
    (extractStridedSlice Cert.KvRefIdeal.S2x8192x1536 ![0, 0, 1024]
      (Host.dotGeneral Cert.KvRefIdeal.dot_S2x8192x1024_S1024x2608_S2x8192x2608_2_0_01_1_n_n none
        (shapeCast _ x Cert.KvRefIdeal.Gen.shapeCasts_S16384x1024_S2x8192x1024) w)
      Cert.KvRefIdeal.Gen.slices_S2x8192x2608_S2x8192x1536_0_0_1024)
    Cert.KvRefIdeal.Gen.transposes_S2x8192x1536_S2x1536x8192_0_2_1

/-- A feature of a token: the token's row times the feature's column of the projection. -/
theorem REF_at (x w) (b : Fin 2) (f : Fin 1536) (s : Fin 8192) (r : Fin 16384) (hr : r.val = 8192 * b.val + s.val)
    (g : Fin 2608) (hg : g.val = 1024 + f.val) : REF x w (ix3 b f s) = ∑ k : Fin 1024, x (ix2 r k) * w (ix2 k g) := by
  pointwise [REF]
  have er : (⟨b.val * 8192 + s.val, by omega⟩ : Fin 16384) = r := Fin.ext (by simp only; omega)
  have eg : (⟨1024 + f.val, by omega⟩ : Fin 2608) = g := Fin.ext (by simp only; omega)
  simp only [er, eg]

variable (m : (ℓ : Loc nD τ sig) → Buf (Elt Ideal) ℓ)

/-- Which block of its array each window stages at a grid point. -/
theorem idx : ∀ t : Fin cfg0.N, win0_0.index t = ![t.val / 3, 0] ∧ win0_1.index t = ![t.val % 3, 0]
    ∧ win0_2.index t = ![t.val / 48, t.val % 3, t.val / 3 % 16] ∧ win0_3.index t = ![t.val / 48, t.val % 3, t.val / 3 % 16] :=
  (by decide +kernel : ∀ t : Fin grid0.N, _)

/-- There are 96 points. -/
theorem N_lt (t : Fin cfg0.N) : t.val < 96 := lt_of_lt_of_eq t.isLt N_0

/-- The activations the body keeps, after a point. -/
def XB (c : Dev nD) (n : ℕ) (h : n < cfg0.N) : FVec Ideal S512x1024 .bf16 := (outsAt0 m c n h).2.2

/-- At a tile's first point they are read from the staged block. -/
theorem xb_start (c : Dev nD) (t : Fin cfg0.N) (h0 : t.val % 3 = 0) : XB m c t.val t.isLt = k0_pay1 (iblk m c 0 t) := by
  rw [XB, outsAt0_A m c t h0]
  frame_out

/-- At the others they stay. -/
theorem xb_next (c : Dev nD) (t : Fin cfg0.N) (h0 : ¬t.val % 3 = 0) :
    XB m c t.val t.isLt = XB m c (t.val - 1) (Nat.lt_of_le_of_lt (Nat.sub_le _ _) t.isLt) := by
  rw [XB, outsAt0_B m c t h0]
  dsimp only [sout0_B_0]
  rfl

/-- The arguments of the call on a device. -/
abbrev aX (c : Dev nD) : FVec Ideal S16384x1024 .f32 := m ((c : Thread nD τ).loc main_arg0)

/-- The projection's weights. -/
abbrev aW (c : Dev nD) : FVec Ideal S1024x2608 .f32 := m ((c : Thread nD τ).loc main_arg1)

/-- The staged activations are the tile's rows. -/
theorem x_blk (c : Dev nD) (t : Fin cfg0.N) (p : Fin 512) (d : Fin 1024) (r : Fin 16384)
    (hr : r.val = 512 * (t.val / 3) + p.val) : k0_pay1 (iblk m c 0 t) (ix2 p d) = aX m c (ix2 r d) := by
  pointwise [k0_pay1]
  blk_point [iblk, V, idx t] <;> omega

/-- So are the kept ones, at every point. -/
theorem xb_at (c : Dev nD) : ∀ (n : ℕ) (h : n < cfg0.N) (p : Fin 512) (d : Fin 1024) (r : Fin 16384)
    (hr : r.val = 512 * (n / 3) + p.val), XB m c n h (ix2 p d) = aX m c (ix2 r d) := by
  intro n
  induction n with
  | zero =>
    intro h p d r hr
    exact (congrFun (xb_start m c ⟨0, h⟩ rfl) _).trans (x_blk m c ⟨0, h⟩ p d r hr)
  | succ n ih =>
    intro h p d r hr
    by_cases h0 : (n + 1) % 3 = 0
    · exact (congrFun (xb_start m c ⟨n + 1, h⟩ h0) _).trans (x_blk m c ⟨n + 1, h⟩ p d r hr)
    · exact (congrFun (xb_next m c ⟨n + 1, h⟩ h0) _).trans (ih _ p d r (by omega))

/-- What a point leaves in the staged blocks of the two results. -/
theorem out_f32 (c : Dev nD) (t : Fin cfg0.N) : (outsAt0 m c t.val t.isLt).1 = k0_pay3 (iblk m c 1 t) (XB m c t.val t.isLt) := by
  by_cases h0 : t.val % 3 = 0
  · rw [xb_start m c t h0, outsAt0_A m c t h0]
    frame_out
  · rw [xb_next m c t h0, outsAt0_B m c t h0]
    frame_out
    rw [read_unread_whole]
    rfl

/-- The same in bf16. -/
theorem out_bf16 (c : Dev nD) (t : Fin cfg0.N) : (outsAt0 m c t.val t.isLt).2.1 = k0_pay4 (iblk m c 1 t) (XB m c t.val t.isLt) := by
  by_cases h0 : t.val % 3 = 0
  · rw [xb_start m c t h0, outsAt0_A m c t h0]
    frame_out
  · rw [xb_next m c t h0, outsAt0_B m c t h0]
    frame_out
    rw [read_unread_whole]
    rfl

/-- An entry of a point's block. -/
theorem prod_at (c : Dev nD) (t : Fin cfg0.N) (f s : Fin 512) (r : Fin 16384) (hr : r.val = 512 * (t.val / 3) + s.val)
    (g : Fin 2608) (hg : g.val = 1024 + (512 * (t.val % 3) + f.val)) :
    k0_pay2 (iblk m c 1 t) (XB m c t.val t.isLt) (ix2 f s) = ∑ k : Fin 1024, aX m c (ix2 r k) * aW m c (ix2 k g) := by
  have W : ∀ k : Fin 1024, iblk m c 1 t (ix2 f k) = aW m c (ix2 k g) := by
    intro k
    blk_point [iblk, V, idx t] <;> omega
  pointwise [k0_pay2]
  refine Finset.sum_congr rfl fun k _ => ?_
  rw [W k, xb_at m c t.val t.isLt s k r hr]
  exact mul_comm _ _

/-- The entry of the whole array where an entry of a point's block lies. -/
theorem emb_at (t : Fin cfg0.N) (y : S1x512x512.Idx) : ((cfg0.win 2).blk t).view.emb y
    = ix3 (⟨t.val / 48, by have := N_lt t; omega⟩ : Fin 2)
        (⟨512 * (t.val % 3) + (y 1).val, by have := (y 1).isLt; simp at this; omega⟩ : Fin 1536)
        (⟨512 * (t.val / 3 % 16) + (y 2).val, by have := (y 2).isLt; simp at this; omega⟩ : Fin 8192) := by
  have hN := N_lt t
  funext a
  fin_cases a <;> apply Fin.ext <;> blk_simp [idx t] <;> simp <;> omega

/-- The kernel's first array after the run is the reference's keys and values. -/
theorem final2 (c : Dev nD) : (dats m 0 c).arrAt 2 (cfgs 0).N = REF (aX m c) (aW m c) := by
  refine (dats m 0 c).arrAt_eq_of_covers 2 _ (by decide +kernel) fun t hf y => ?_
  have hN := N_lt t
  have h1 := (y 1).isLt
  have h2 := (y 2).isLt
  simp at h1 h2
  have he := emb_at t y
  rw [he]
  blk_simp; rw [after0_2, out_f32 m c t, eq_ix3 y]
  have e : k0_pay3 (iblk m c 1 t) (XB m c t.val t.isLt) (ix3 (y 0) (y 1) (y 2))
      = k0_pay2 (iblk m c 1 t) (XB m c t.val t.isLt) (ix2 (y 1) (y 2)) := by
    pointwise [k0_pay3]
  refine e.trans ((prod_at m c t (y 1) (y 2) ⟨512 * (t.val / 3) + (y 2).val, by omega⟩ rfl
    ⟨1024 + (512 * (t.val % 3) + (y 1).val), by omega⟩ rfl).trans (REF_at _ _ _ _ _ _ ?_ _ ?_).symm) <;> simp <;> omega

/-- So is the second, a cast being the identity here. -/
theorem final3 (c : Dev nD) : (dats m 0 c).arrAt 3 (cfgs 0).N
    = truncf .bf16 (REF (aX m c) (aW m c)) Cert.KvRefIdeal.Gen.bitsLt_bf16_f32 := by
  refine (dats m 0 c).arrAt_eq_of_covers 3 _ (by decide +kernel) fun t hf y => ?_
  have hN := N_lt t
  have h1 := (y 1).isLt
  have h2 := (y 2).isLt
  simp at h1 h2
  have he : ((cfg0.win 3).blk t).view.emb y = _ := emb_at t y
  rw [he]
  blk_simp; rw [after0_3, out_bf16 m c t, eq_ix3 y]
  have e : k0_pay4 (iblk m c 1 t) (XB m c t.val t.isLt) (ix3 (y 0) (y 1) (y 2))
      = k0_pay2 (iblk m c 1 t) (XB m c t.val t.isLt) (ix2 (y 1) (y 2)) := by
    pointwise [k0_pay4]
  refine e.trans ((prod_at m c t (y 1) (y 2) ⟨512 * (t.val / 3) + (y 2).val, by omega⟩ rfl
    ⟨1024 + (512 * (t.val % 3) + (y 1).val), by omega⟩ rfl).trans (REF_at _ _ _ _ _ _ ?_ _ ?_).symm) <;> simp <;> omega

end Cert.KvProof

end
-- ==== Proof.KvsValue.lean ====
/- The keys and values of an attention layer (sample): the kernel's array is the reference's projection, token by feature. -/
module

public import proofs.«01_k».proof.Proof.Gen.KvsIdeal.Value
public import proofs.«01_k».proof.Proof.Gen.KvsRefIdeal.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.KvsIdeal Cert.KvsIdeal.Gen

namespace Cert.KvsProof

/-- The reference's keys and values, as the printed operations compose them. -/
def REF (x : FVec Ideal Cert.KvsRefIdeal.S256x1024 .f32) (w : FVec Ideal Cert.KvsRefIdeal.S1024x2608 .f32) :
    FVec Ideal Cert.KvsRefIdeal.S256x1536 .f32 :=
  extractStridedSlice Cert.KvsRefIdeal.S256x1536 ![0, 1024]
    (Host.dotGeneral Cert.KvsRefIdeal.dot_S256x1024_S1024x2608_S256x2608_1_0_0_1_n_n none x w)
    Cert.KvsRefIdeal.Gen.slices_S256x2608_S256x1536_0_1024

/-- A feature of a token: the token's row times the feature's column of the projection. -/
theorem REF_at (x w) (r : Fin 256) (f : Fin 1536)
    (g : Fin 2608) (hg : g.val = 1024 + f.val) : REF x w (ix2 r f) = ∑ k : Fin 1024, x (ix2 r k) * w (ix2 k g) := by
  pointwise [REF]
  have eg : (⟨1024 + f.val, by omega⟩ : Fin 2608) = g := Fin.ext (by simp only; omega)
  simp only [eg]

variable (m : (ℓ : Loc nD τ sig) → Buf (Elt Ideal) ℓ)

/-- Which block of its array each window stages at a grid point. -/
theorem idx : ∀ t : Fin cfg0.N, win0_0.index t = ![0, 0] ∧ win0_1.index t = ![0, t.val] ∧ win0_2.index t = ![0, t.val] :=
  (by decide +kernel : ∀ t : Fin grid0.N, _)

/-- There are three points. -/
theorem N_lt (t : Fin cfg0.N) : t.val < 3 := lt_of_lt_of_eq t.isLt N_0

/-- The activations of the call on a device. -/
abbrev aX (c : Dev nD) : FVec Ideal S256x1024 .f32 := m ((c : Thread nD τ).loc main_arg0)

/-- The projection's weights. -/
abbrev aW (c : Dev nD) : FVec Ideal S1024x2608 .f32 := m ((c : Thread nD τ).loc main_arg1)

/-- The activations the body keeps, after a point. -/
def XB (c : Dev nD) (n : ℕ) (h : n < cfg0.N) : FVec Ideal S256x1024 .bf16 := (outsAt0 m c n h).2

/-- At the first point they are read from the staged block. -/
theorem xb_start (c : Dev nD) (t : Fin cfg0.N) (h0 : t.val % 3 = 0) : XB m c t.val t.isLt = k0_pay1 (iblk m c 0 t) := by
  rw [XB, outsAt0_A m c t h0]
  frame_out

/-- At the others they stay. -/
theorem xb_next (c : Dev nD) (t : Fin cfg0.N) (h0 : ¬t.val % 3 = 0) :
    XB m c t.val t.isLt = XB m c (t.val - 1) (Nat.lt_of_le_of_lt (Nat.sub_le _ _) t.isLt) := by
  rw [XB, outsAt0_B m c t h0]
  dsimp only [sout0_B_0]
  rfl

/-- The staged activations are the sample's rows. -/
theorem x_blk (c : Dev nD) (t : Fin cfg0.N) (r : Fin 256) (d : Fin 1024) :
    k0_pay1 (iblk m c 0 t) (ix2 r d) = aX m c (ix2 r d) := by
  pointwise [k0_pay1]
  blk_point [iblk, V, idx t] <;> omega

/-- So are the kept ones, at every point. -/
theorem xb_at (c : Dev nD) : ∀ (n : ℕ) (h : n < cfg0.N) (r : Fin 256) (d : Fin 1024),
    XB m c n h (ix2 r d) = aX m c (ix2 r d) := by
  intro n
  induction n with
  | zero =>
    intro h r d
    exact (congrFun (xb_start m c ⟨0, h⟩ rfl) _).trans (x_blk m c ⟨0, h⟩ r d)
  | succ n ih =>
    intro h r d
    by_cases h0 : (n + 1) % 3 = 0
    · exact (congrFun (xb_start m c ⟨n + 1, h⟩ h0) _).trans (x_blk m c ⟨n + 1, h⟩ r d)
    · exact (congrFun (xb_next m c ⟨n + 1, h⟩ h0) _).trans (ih _ r d)

/-- What a point leaves in the staged block of the result. -/
theorem out_f32 (c : Dev nD) (t : Fin cfg0.N) : (outsAt0 m c t.val t.isLt).1 = k0_pay2 (XB m c t.val t.isLt) (iblk m c 1 t) := by
  by_cases h0 : t.val % 3 = 0
  · rw [xb_start m c t h0, outsAt0_A m c t h0]
    frame_out
  · rw [xb_next m c t h0, outsAt0_B m c t h0]
    frame_out
    rw [read_unread_whole]
    rfl

/-- An entry of a point's block. -/
theorem prod_at (c : Dev nD) (t : Fin cfg0.N) (r : Fin 256) (f : Fin 512)
    (g : Fin 2608) (hg : g.val = 1024 + (512 * t.val + f.val)) :
    k0_pay2 (XB m c t.val t.isLt) (iblk m c 1 t) (ix2 r f) = ∑ k : Fin 1024, aX m c (ix2 r k) * aW m c (ix2 k g) := by
  have hN := N_lt t
  have W : ∀ k : Fin 1024, iblk m c 1 t (ix2 k f) = aW m c (ix2 k g) := by
    intro k
    blk_point [iblk, V, idx t] <;> omega
  pointwise [k0_pay2]
  refine Finset.sum_congr rfl fun k _ => ?_
  rw [W k, xb_at m c t.val t.isLt r k]
  try rfl

/-- The entry of the whole array where an entry of a point's block lies. -/
theorem emb_at (t : Fin cfg0.N) (y : S256x512.Idx) : ((cfg0.win 2).blk t).view.emb y
    = ix2 (⟨(y 0).val, by have := (y 0).isLt; simp at this; omega⟩ : Fin 256)
        (⟨512 * t.val + (y 1).val, by have := N_lt t; have := (y 1).isLt; simp at this; omega⟩ : Fin 1536) := by
  have hN := N_lt t
  funext a
  fin_cases a <;> apply Fin.ext <;> blk_simp [idx t] <;> simp <;> omega

/-- The kernel's array after the run is the reference's keys and values. -/
theorem final2 (c : Dev nD) : (dats m 0 c).arrAt 2 (cfgs 0).N = REF (aX m c) (aW m c) := by
  refine (dats m 0 c).arrAt_eq_of_covers 2 _ (by decide +kernel) fun t hf y => ?_
  have hN := N_lt t
  have h0 := (y 0).isLt
  have h1 := (y 1).isLt
  simp at h0 h1
  have he := emb_at t y
  rw [he]
  blk_simp; rw [after0_2, out_f32 m c t, eq_ix2 y]
  refine (prod_at m c t (y 0) (y 1) ⟨1024 + (512 * t.val + (y 1).val), by omega⟩ rfl).trans (REF_at _ _ _ _ _ ?_).symm
  simp

end Cert.KvsProof

end
-- ==== Proof.KvClaim.lean ====
/- The value claims of the key and value projection, over the prompt and over the sample. -/
module

public import proofs.«01_k».proof.Defs
public import proofs.«01_k».proof.Proof.KvValue
public import proofs.«01_k».proof.Proof.KvsValue
public import proofs.«01_k».proof.Proof.Counters
public import Idealize.ShloMosaic.Lib.Claim

@[expose] public section

set_option maxRecDepth 16384

noncomputable section

open Idealize.ShloMosaic Idealize.ShloMosaic.TcCoe Idealize.SL.Sem

namespace Cert.Proof

/-- The reference's projection of the prompt ends, faults nowhere and leaves its arguments as they were. -/
theorem quiescent_KvRef : Cert.quiescent_KvRefIdeal := by
  intro m g _
  refine run_counters (by decide) ?_
  hlo_run

/-- The kernel and its reference end with the same keys and values of the prompt, in both types. -/
theorem algebraic_Kv : Cert.algebraic_KvIdeal_KvRefIdeal := by
  pair_intro
  · run_from Cert.KvIdeal.Gen.run_main m g
  · hlo_run
    · exact (Cert.KvProof.final2 m c).symm
    · exact (Cert.KvProof.final3 m c).symm

/-- The reference's projection of the sample ends, faults nowhere and leaves its arguments as they were. -/
theorem quiescent_KvsRef : Cert.quiescent_KvsRefIdeal := by
  intro m g _
  refine run_counters (by decide) ?_
  hlo_run

/-- The kernel and its reference end with the same keys and values of the sample. -/
theorem algebraic_Kvs : Cert.algebraic_KvsIdeal_KvsRefIdeal := by
  pair_intro
  · run_from Cert.KvsIdeal.Gen.run_main m g
  · hlo_run
    exact (Cert.KvsProof.final2 m c).symm

end Cert.Proof

end
-- ==== Proof.FfnSpec.lean ====
/- The numbers the ConvFFN computes, entry by entry: the form both the kernel and its reference are brought to. -/
module

public import proofs.«01_k».proof.FfnRefIdeal
public import proofs.«01_k».proof.Proof.Gen.FfnRefIdeal
public import Idealize.ShloMosaic.Lib.StableHlo.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.FfnRefIdeal Cert.FfnRefIdeal.Gen

namespace Cert.FfnProof

/-- An up-projected entry: row `n` of `x` against column `f` of the weight. -/
def uv (x : FVec Ideal S16384x1024 .f32) (wu : FVec Ideal S1024x5632 .f32) (n : Fin 16384) (f : Fin 5632) : EReal :=
  ∑ d : Fin 1024, x (ix2 n d) * wu (ix2 d f)

/-- The up-projected row `s` rows earlier in the same batch row, or zero before its start. -/
def up (x : FVec Ideal S16384x1024 .f32) (wu : FVec Ideal S1024x5632 .f32) (s : ℕ) (n : Fin 16384) (f : Fin 5632) : EReal :=
  if s ≤ n.val % 8192 then uv x wu ⟨n.val - s, Nat.lt_of_le_of_lt (Nat.sub_le _ _) n.isLt⟩ f else 0

/-- The causal convolution of width three. -/
def cv (x : FVec Ideal S16384x1024 .f32) (wu : FVec Ideal S1024x5632 .f32) (cw : FVec Ideal S3x5632 .f32)
    (cb : FVec Ideal S5632 .f32) (n : Fin 16384) (f : Fin 5632) : EReal :=
  cb (ix1 f) + cw (ix2 0 f) * up x wu 2 n f + cw (ix2 1 f) * up x wu 1 n f + cw (ix2 2 f) * up x wu 0 n f

/-- The tanh form of the gelu. -/
def gel (z : EReal) : EReal :=
  Ideal.ofBits FTy.f32 1056964608#32 * z *
    (1 + Ideal.tanh (Ideal.ofBits FTy.f32 1061962282#32 * (z + Ideal.ofBits FTy.f32 1027024659#32 * (z * z * z))))

/-- A hidden entry: the gelu of the gate half times the value half. -/
def hid (x : FVec Ideal S16384x1024 .f32) (wu : FVec Ideal S1024x5632 .f32) (cw : FVec Ideal S3x5632 .f32)
    (cb : FVec Ideal S5632 .f32) (n : Fin 16384) (f : Fin 2816) : EReal :=
  gel (cv x wu cw cb n ⟨2816 + f.val, by omega⟩) * cv x wu cw cb n ⟨f.val, by omega⟩

/-- A row's layer norm with scale and shift. -/
def lnv (v : Fin 1024 → EReal) (g b : EReal) (d : Fin 1024) : EReal :=
  (v d - Ideal.div (∑ x, v x) (Ideal.ofBits FTy.f32 1149239296#32)) *
      Ideal.rsqrt (Ideal.div
          (∑ x, (v x - Ideal.div (∑ x, v x) (Ideal.ofBits FTy.f32 1149239296#32)) *
            (v x - Ideal.div (∑ x, v x) (Ideal.ofBits FTy.f32 1149239296#32)))
          (Ideal.ofBits FTy.f32 1149239296#32) + Ideal.ofBits FTy.f32 925353388#32) * g + b

/-- The residual sum before the norm. -/
def res (x : FVec Ideal S16384x1024 .f32) (wu : FVec Ideal S1024x5632 .f32) (cw : FVec Ideal S3x5632 .f32)
    (cb : FVec Ideal S5632 .f32) (wd : FVec Ideal S2816x1024 .f32) (n : Fin 16384) (d : Fin 1024) : EReal :=
  Ideal.ofBits FTy.f32 1071072509#32 * x (ix2 n d) + ∑ f : Fin 2816, hid x wu cw cb n f * wd (ix2 f d)

end Cert.FfnProof

end
-- ==== Proof.OutValue.lean ====
/- The output projection of the attention layer: one entry of its result, against the reference's. -/
module

public import proofs.«01_k».proof.Proof.Gen.OutIdeal.Value
public import proofs.«01_k».proof.Proof.Gen.OutRefIdeal.Run
public import proofs.«01_k».proof.Proof.FfnSpec
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.OutIdeal Cert.OutIdeal.Gen

namespace Cert.OutProof

/-- Where the kernel's head order puts the column `k` of the reference's order. -/
def inv (k : Fin 1024) : Fin 1024 := ⟨k.val / 512 * 512 + k.val / 64 % 4 * 128 + k.val / 256 % 2 * 64 + k.val % 64, by omega⟩

/-- Which column of the reference's order stands at `k` in the kernel's head order. -/
def perm (k : Fin 1024) : Fin 1024 := ⟨k.val / 512 * 512 + k.val / 64 % 2 * 256 + k.val / 128 % 4 * 64 + k.val % 64, by omega⟩

/-- The first undoes the second. -/
theorem inv_perm : ∀ k : Fin 1024, inv (perm k) = k := by
  decide +kernel

/-- The program's table of row numbers is that permutation. -/
theorem lit_eq : ∀ k : Fin 1024, (lit0 k).toInt.toNat = (perm k).val := by
  decide +kernel

variable (m : (ℓ : Loc nD τ sig) → Buf (Elt Ideal) ℓ)

/-- Which block of its array each window stages at a grid point. -/
theorem idx : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] :=
  (by decide +kernel : ∀ t : Fin grid0.N, _)

/-- The output projection's weight on a device. -/
abbrev aW (c : Dev nD) : FVec Ideal S1024x1024 .f32 := m ((c : Thread nD τ).loc main_arg1)

/-- A gather of whole rows reads the row that its index names. -/
theorem gather_rows (x : FVec Ideal S1024x1024 .f32) (i : IVec S1024x1 32) (k d g : Fin 1024)
    (hg : min (i (ix2 k 0)).toInt.toNat 1023 = g.val) :
    Host.gather gather_S1024x1024_S1024x1_S1024x1024_1_0_n_n_0_1_11024 x i (ix2 k d) = x (ix2 g d) := by
  set G := gather_S1024x1024_S1024x1_S1024x1024_1_0_n_n_0_1_11024 with hG
  unfold Host.gather
  congr 1
  funext a
  refine Fin.ext ?_
  show G.start (ix2 k d) i a + G.batchCoord (ix2 k d) a + G.offCoord (ix2 k d) a = _
  rw [GatherDims.batchCoord_eq_zero _ _ _ (by rw [hG]; exact List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ G.startIndexMap from List.mem_singleton.mpr rfl)]
    have hsi : G.siIdx (ix2 k d) ⟨List.idxOf (0 : Fin 2) G.startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    exact hg
  · unfold GatherDims.start
    rw [dif_neg (show (1 : Fin 2) ∉ G.startIndexMap by rw [hG]; decide)]
    simp only [Nat.zero_add]
    rfl

/-- The staged weight is the weight with its rows in the kernel's head order. -/
theorem w_at (c : Dev nD) (t : Fin cfg0.N) (k d : Fin 1024) :
    iblk m c 1 t (ix2 k d) = aW m c (ix2 (perm k) d) := by
  have e : iblk m c 1 t (ix2 k d) = Host.gather gather_S1024x1024_S1024x1_S1024x1024_1_0_n_n_0_1_11024 (aW m c)
      (broadcastInDim S1024x1 ![0] bcast_S1024_S1024x1_0
        (select (constantI S1024 1 0#1)
          (addi (fun i => lit0 (S1024.rowMajor i)) (broadcastInDim S1024 ![] bcast_S_S1024 (constantI S_ 32 1024#32)))
          fun i => lit0 (S1024.rowMajor i))) (ix2 k d) := by
    blk_point [iblk, V, idx t]
  rw [e]
  refine gather_rows _ _ _ _ _ ?_
  have h := lit_eq k
  have hp := (perm k).isLt
  pointwise []
  have hr : S1024.rowMajor (ix1 k) = k := Fin.ext (Shape.rowMajor_val_one _)
  rw [hr, h]
  omega

/-- The kernel's layer norm at an entry. -/
theorem norm_at (a w x g b) (p : Fin 512) (d : Fin 1024) :
    (k0_pay1 a w x g b : FVec Ideal S512x1024 .f32) (ix2 p d)
      = Cert.FfnProof.lnv (fun e => Ideal.ofBits FTy.f32 1071072509#32 * x (ix2 p e) + ∑ k : Fin 1024, a (ix2 p k) * w (ix2 k e))
          (g (ix2 0 d)) (b (ix2 0 d)) d := by
  pointwise [k0_pay1, Cert.FfnProof.lnv]

/-- The reference's result at an entry. -/
theorem ref_at (m' : (ℓ : Loc Cert.OutRefIdeal.nD Cert.OutRefIdeal.τ Cert.OutRefIdeal.sig) → Buf (Elt Ideal) ℓ) (c : Dev nD)
    (a : FVec Ideal S16384x1024 .bf16) (w : FVec Ideal S1024x1024 .f32) (x : FVec Ideal S16384x1024 .f32) (g b : FVec Ideal S1024 .f32)
    (h0 : m' ((c : Thread Cert.OutRefIdeal.nD Cert.OutRefIdeal.τ).loc Cert.OutRefIdeal.main_arg0) = a)
    (h1 : m' ((c : Thread Cert.OutRefIdeal.nD Cert.OutRefIdeal.τ).loc Cert.OutRefIdeal.main_arg1) = w)
    (h2 : m' ((c : Thread Cert.OutRefIdeal.nD Cert.OutRefIdeal.τ).loc Cert.OutRefIdeal.main_arg2) = x)
    (h3 : m' ((c : Thread Cert.OutRefIdeal.nD Cert.OutRefIdeal.τ).loc Cert.OutRefIdeal.main_arg3) = g)
    (h4 : m' ((c : Thread Cert.OutRefIdeal.nD Cert.OutRefIdeal.τ).loc Cert.OutRefIdeal.main_arg4) = b)
    (p : Fin 16384) (d : Fin 1024) :
    Cert.OutRefIdeal.Value.res_main_v30 m' c (ix2 p d)
      = Cert.FfnProof.lnv (fun e => Ideal.ofBits FTy.f32 1071072509#32 * x (ix2 p e) + ∑ k : Fin 1024, a (ix2 p (inv k)) * w (ix2 k e))
          (g (ix1 d)) (b (ix1 d)) d := by
  pointwise [Cert.OutRefIdeal.Value.res_main_v30, Cert.FfnProof.lnv, inv]
  simp only [h0, h1, h2, h3, h4]

/-- A sum over columns in one order is the sum over them in the other. -/
theorem sum_perm (f : Fin 1024 → Fin 1024 → EReal) : ∑ k : Fin 1024, f (inv k) k = ∑ j : Fin 1024, f j (perm j) := by
  have hb : Function.Bijective perm :=
    Finite.injective_iff_bijective.mp (Function.LeftInverse.injective inv_perm)
  rw [← hb.sum_comp]
  simp only [inv_perm]

/-- The attention's output, in the kernel's head order. -/
abbrev aA (c : Dev nD) : FVec Ideal S16384x1024 .bf16 := m ((c : Thread nD τ).loc main_arg0)

/-- The residual activations. -/
abbrev aX (c : Dev nD) : FVec Ideal S16384x1024 .f32 := m ((c : Thread nD τ).loc main_arg2)

/-- The layer norm's gain. -/
abbrev aG (c : Dev nD) : FVec Ideal S1024 .f32 := m ((c : Thread nD τ).loc main_arg3)

/-- The layer norm's bias. -/
abbrev aB (c : Dev nD) : FVec Ideal S1024 .f32 := m ((c : Thread nD τ).loc main_arg4)

/-- The staged attention rows. -/
theorem a_row (c : Dev nD) (t : Fin cfg0.N) (p : Fin 512) (k : Fin 1024) (r : Fin 16384) (hr : r.val = 512 * t.val + p.val) :
    iblk m c 0 t (ix2 p k) = aA m c (ix2 r k) := by
  blk_point [iblk, V, idx t] <;> omega

/-- The staged residual rows. -/
theorem x_row (c : Dev nD) (t : Fin cfg0.N) (p : Fin 512) (k : Fin 1024) (r : Fin 16384) (hr : r.val = 512 * t.val + p.val) :
    iblk m c 2 t (ix2 p k) = aX m c (ix2 r k) := by
  blk_point [iblk, V, idx t] <;> omega

/-- The staged gain. -/
theorem g_at (c : Dev nD) (t : Fin cfg0.N) (k : Fin 1024) : iblk m c 3 t (ix2 0 k) = aG m c (ix1 k) := by
  blk_point [iblk, V, idx t]

/-- The staged bias. -/
theorem b_at (c : Dev nD) (t : Fin cfg0.N) (k : Fin 1024) : iblk m c 4 t (ix2 0 k) = aB m c (ix1 k) := by
  blk_point [iblk, V, idx t]

/-- What the kernel stores at an entry of a block is the layer norm of the residual and the projected row. -/
theorem point (c : Dev nD) (t : Fin cfg0.N) (p : Fin 512) (d : Fin 1024) (r : Fin 16384) (hr : r.val = 512 * t.val + p.val) :
    k0_pay1 (iblk m c 0 t) (iblk m c 1 t) (iblk m c 2 t) (iblk m c 3 t) (iblk m c 4 t) (ix2 p d)
      = Cert.FfnProof.lnv (fun e => Ideal.ofBits FTy.f32 1071072509#32 * aX m c (ix2 r e)
            + ∑ k : Fin 1024, aA m c (ix2 r (inv k)) * aW m c (ix2 k e)) (aG m c (ix1 d)) (aB m c (ix1 d)) d := by
  rw [norm_at, g_at, b_at]
  refine congrArg (fun v => Cert.FfnProof.lnv v _ _ d) (funext fun e => ?_)
  rw [x_row m c t p e r hr, sum_perm (fun j k => aA m c (ix2 r j) * aW m c (ix2 k e))]
  refine congrArg (_ + ·) (Finset.sum_congr rfl fun k _ => ?_)
  rw [a_row m c t p k r hr, w_at]

/-- The result array is the reference's, entry by entry. -/
theorem final (c : Dev nD) (m' : (ℓ : Loc Cert.OutRefIdeal.nD Cert.OutRefIdeal.τ Cert.OutRefIdeal.sig) → Buf (Elt Ideal) ℓ) (c' : Dev Cert.OutRefIdeal.nD)
    (h0 : m' ((c' : Thread Cert.OutRefIdeal.nD Cert.OutRefIdeal.τ).loc Cert.OutRefIdeal.main_arg0) = aA m c)
    (h1 : m' ((c' : Thread Cert.OutRefIdeal.nD Cert.OutRefIdeal.τ).loc Cert.OutRefIdeal.main_arg1) = aW m c)
    (h2 : m' ((c' : Thread Cert.OutRefIdeal.nD Cert.OutRefIdeal.τ).loc Cert.OutRefIdeal.main_arg2) = aX m c)
    (h3 : m' ((c' : Thread Cert.OutRefIdeal.nD Cert.OutRefIdeal.τ).loc Cert.OutRefIdeal.main_arg3) = aG m c)
    (h4 : m' ((c' : Thread Cert.OutRefIdeal.nD Cert.OutRefIdeal.τ).loc Cert.OutRefIdeal.main_arg4) = aB m c) :
    (dats m 0 c).arrAt 5 (cfgs 0).N = (Cert.OutRefIdeal.Value.res_main_v30 m' c' : FVec Ideal S16384x1024 .f32) := by
  refine (dats m 0 c).arrAt_eq_of_covers 5 _ (by decide +kernel) fun t hf y => ?_
  have hN : t.val < 32 := lt_of_lt_of_eq t.isLt N_0
  have hy0 := (y 0).isLt
  have hy1 := (y 1).isLt
  simp at hy0 hy1
  have he : ((cfg0.win 5).blk t).view.emb y = ix2 (⟨512 * t.val + (y 0).val, by omega⟩ : Fin 16384) (⟨(y 1).val, by omega⟩ : Fin 1024) := by
    funext a
    fin_cases a <;> apply Fin.ext <;> blk_simp [idx t] <;> simp <;> omega
  rw [he]
  blk_simp; rw [after0_5]; frame_out
  rw [ref_at m' c' _ _ _ _ _ h0 h1 h2 h3 h4]
  exact (congrArg _ (eq_ix2 y)).trans (point m c t (y 0) (y 1) _ rfl)

end Cert.OutProof

end
-- ==== Proof.OutClaim.lean ====
/- The value claim of the attention layer's output projection. -/
module

public import proofs.«01_k».proof.Defs
public import proofs.«01_k».proof.Proof.OutValue
public import proofs.«01_k».proof.Proof.Counters
public import Idealize.ShloMosaic.Lib.Claim

@[expose] public section

set_option maxRecDepth 16384

noncomputable section

open Idealize.ShloMosaic Idealize.ShloMosaic.TcCoe Idealize.SL.Sem

namespace Cert.Proof

/-- The reference's output projection ends, faults nowhere and leaves its arguments as they were. -/
theorem quiescent_OutRef : Cert.quiescent_OutRefIdeal := by
  intro m g _
  refine run_counters (by decide) ?_
  hlo_run

/-- The kernel and its reference end with the same normed rows. -/
theorem algebraic_Out : Cert.algebraic_OutIdeal_OutRefIdeal := by
  pair_intro
  · run_from Cert.OutIdeal.Gen.run_main m g
  · run_from Cert.OutRefIdeal.Value.run m' g'
    have h := hagree c
    exact (Cert.OutProof.final m c m' c h.1 h.2.1 h.2.2.1 h.2.2.2.1 h.2.2.2.2).symm

end Cert.Proof

end
-- ==== Proof.FfsBody.lean ====
/- What one point of the sample's feed-forward kernel keeps and stores. -/
module

public import proofs.«01_k».proof.Proof.Gen.FfsIdeal.Frame
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.FfsIdeal Cert.FfsIdeal.Gen

namespace Cert.FfsProof

variable (m : (ℓ : Loc nD τ sig) → Buf (Elt Ideal) ℓ)

/-- The activations the body keeps, after a point. -/
def XB (c : Dev nD) (n : ℕ) (h : n < cfg0.N) : FVec Ideal S256x1024 .bf16 := (outsAt0 m c n h).2.2.2.1

/-- The running down projection after a point. -/
def ACC (c : Dev nD) (n : ℕ) (h : n < cfg0.N) : FVec Ideal S256x1024 .f32 := (outsAt0 m c n h).2.2.2.2

/-- The value half's convolved columns at a point. -/
def convA (c : Dev nD) (t : Fin cfg0.N) (xb : FVec Ideal S256x1024 .bf16) : FVec Ideal S256x256 .f32 :=
  k0_pay11 (k0_pay6 xb (iblk m c 3 t)) (k0_pay8 xb (iblk m c 3 t) (iblk m c 1 t)) (iblk m c 5 t)
    (k0_pay9 xb (iblk m c 3 t) (iblk m c 1 t) (iblk m c 5 t) (iblk m c 7 t)) (k0_pay10 (iblk m c 5 t))

/-- One point's step of the running down projection. -/
def step (c : Dev nD) (t : Fin cfg0.N) (xb : FVec Ideal S256x1024 .bf16) (acc : FVec Ideal S256x1024 .f32) :
    FVec Ideal S256x1024 .f32 :=
  k0_pay1 (convA m c t xb) (k0_pay13 xb (iblk m c 4 t)) (k0_pay15 xb (iblk m c 4 t) (iblk m c 2 t)) (iblk m c 6 t)
    (k0_pay16 xb (iblk m c 4 t) (iblk m c 2 t) (iblk m c 6 t) (iblk m c 8 t)) (k0_pay17 (iblk m c 6 t)) acc (iblk m c 9 t)

/-- At the first point the activations are read from the staged block. -/
theorem xb_start (c : Dev nD) (t : Fin cfg0.N) (h0 : t.val % 11 = 0) : XB m c t.val t.isLt = k0_pay3 (iblk m c 0 t) := by
  rw [XB, outsAt0_A m c t h0 (by omega)]
  frame_out

/-- At the first point the down projection starts from zero. -/
theorem acc_start (c : Dev nD) (t : Fin cfg0.N) (h0 : t.val % 11 = 0) :
    ACC m c t.val t.isLt = step m c t (XB m c t.val t.isLt) k0_pay4 := by
  rw [xb_start m c t h0, ACC, outsAt0_A m c t h0 (by omega)]
  frame_out
  rfl

/-- At the others the activations stay. -/
theorem xb_next (c : Dev nD) (t : Fin cfg0.N) (h0 : ¬t.val % 11 = 0) :
    XB m c t.val t.isLt = XB m c (t.val - 1) (Nat.lt_of_le_of_lt (Nat.sub_le _ _) t.isLt) := by
  by_cases h1 : t.val % 11 = 10
  · rw [XB, outsAt0_C m c t h0 h1]
    dsimp only [sout0_C_0]
    rfl
  · rw [XB, outsAt0_B m c t h0 h1]
    dsimp only [sout0_B_0]
    rfl

/-- At the others the down projection goes on from the point before. -/
theorem acc_next (c : Dev nD) (t : Fin cfg0.N) (h0 : ¬t.val % 11 = 0) :
    ACC m c t.val t.isLt = step m c t (XB m c t.val t.isLt)
      (ACC m c (t.val - 1) (Nat.lt_of_le_of_lt (Nat.sub_le _ _) t.isLt)) := by
  rw [xb_next m c t h0]
  by_cases h1 : t.val % 11 = 10
  · rw [ACC, outsAt0_C m c t h0 h1]
    frame_out
    rw [read_unread_whole, read_unread_whole]
    rfl
  · rw [ACC, outsAt0_B m c t h0 h1]
    frame_out
    rw [read_unread_whole, read_unread_whole]
    rfl

/-- The value half's up-projected rows a point stores. -/
theorem rowsA (c : Dev nD) (t : Fin cfg0.N) : (outsAt0 m c t.val t.isLt).2.1 = k0_pay5 (XB m c t.val t.isLt) (iblk m c 3 t) := by
  by_cases h0 : t.val % 11 = 0
  · rw [xb_start m c t h0, outsAt0_A m c t h0 (by omega)]
    frame_out
  · rw [xb_next m c t h0]
    by_cases h1 : t.val % 11 = 10
    · rw [outsAt0_C m c t h0 h1]
      frame_out
      rw [read_unread_whole]
      rfl
    · rw [outsAt0_B m c t h0 h1]
      frame_out
      rw [read_unread_whole]
      rfl

/-- The gate half's. -/
theorem rowsB (c : Dev nD) (t : Fin cfg0.N) : (outsAt0 m c t.val t.isLt).2.2.1 = k0_pay12 (XB m c t.val t.isLt) (iblk m c 4 t) := by
  by_cases h0 : t.val % 11 = 0
  · rw [xb_start m c t h0, outsAt0_A m c t h0 (by omega)]
    frame_out
  · rw [xb_next m c t h0]
    by_cases h1 : t.val % 11 = 10
    · rw [outsAt0_C m c t h0 h1]
      frame_out
      rw [read_unread_whole]
      rfl
    · rw [outsAt0_B m c t h0 h1]
      frame_out
      rw [read_unread_whole]
      rfl

/-- The normed rows the last point stores. -/
theorem out_last (c : Dev nD) (t : Fin cfg0.N) (h1 : t.val % 11 = 10) : (outsAt0 m c t.val t.isLt).1
    = k0_pay2 (iblk m c 0 t) (ACC m c t.val t.isLt) (iblk m c 10 t) (iblk m c 11 t) := by
  have h0 : ¬t.val % 11 = 0 := by omega
  rw [acc_next m c t h0, xb_next m c t h0, outsAt0_C m c t h0 h1]
  frame_out
  rw [read_unread_whole, read_unread_whole]
  rfl

end Cert.FfsProof

end
-- ==== Proof.FfsRef.lean ====
/- The sample's feed-forward reference, stage by stage, and each stage at an entry. -/
module

public import proofs.«01_k».proof.Proof.FfnSpec
public import proofs.«01_k».proof.Proof.Gen.FfsRefIdeal
public import Idealize.ShloMosaic.Lib.StableHlo.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.FfsRefIdeal Cert.FfsRefIdeal.Gen
open Cert.FfnProof (gel lnv)

namespace Cert.FfsProof

/-- An up-projected entry: row `n` of `x` against column `f` of the weight. -/
def uv (x : FVec Ideal S256x1024 .f32) (wu : FVec Ideal S1024x5632 .f32) (n : Fin 256) (f : Fin 5632) : EReal :=
  ∑ d : Fin 1024, x (ix2 n d) * wu (ix2 d f)

/-- The up-projected row `s` rows earlier in the same sequence, or the kept row of the history before its start. -/
def up (x : FVec Ideal S256x1024 .f32) (hist : FVec Ideal S32x2x5632 .f32) (wu : FVec Ideal S1024x5632 .f32) (s : Fin 3)
    (n : Fin 256) (f : Fin 5632) : EReal :=
  if s.val ≤ n.val % 8 then uv x wu ⟨n.val - s.val, Nat.lt_of_le_of_lt (Nat.sub_le _ _) n.isLt⟩ f
  else hist (ix3 ⟨n.val / 8, by omega⟩ ⟨(n.val % 8 + 2 - s.val) % 2, Nat.mod_lt _ (by omega)⟩ f)

/-- The causal convolution of width three. -/
def cv (x : FVec Ideal S256x1024 .f32) (hist : FVec Ideal S32x2x5632 .f32) (wu : FVec Ideal S1024x5632 .f32)
    (cw : FVec Ideal S3x5632 .f32) (cb : FVec Ideal S5632 .f32) (n : Fin 256) (f : Fin 5632) : EReal :=
  cb (ix1 f) + cw (ix2 0 f) * up x hist wu 2 n f + cw (ix2 1 f) * up x hist wu 1 n f + cw (ix2 2 f) * up x hist wu 0 n f

/-- A hidden entry: the gelu of the gate half times the value half. -/
def hid (x : FVec Ideal S256x1024 .f32) (hist : FVec Ideal S32x2x5632 .f32) (wu : FVec Ideal S1024x5632 .f32)
    (cw : FVec Ideal S3x5632 .f32) (cb : FVec Ideal S5632 .f32) (n : Fin 256) (f : Fin 2816) : EReal :=
  gel (cv x hist wu cw cb n ⟨2816 + f.val, by omega⟩) * cv x hist wu cw cb n ⟨f.val, by omega⟩

/-- The residual sum before the norm. -/
def res (x : FVec Ideal S256x1024 .f32) (hist : FVec Ideal S32x2x5632 .f32) (wu : FVec Ideal S1024x5632 .f32)
    (cw : FVec Ideal S3x5632 .f32) (cb : FVec Ideal S5632 .f32) (wd : FVec Ideal S2816x1024 .f32) (n : Fin 256)
    (d : Fin 1024) : EReal :=
  Ideal.ofBits FTy.f32 1071072509#32 * x (ix2 n d) + ∑ f : Fin 2816, hid x hist wu cw cb n f * wd (ix2 f d)

/-- The up projection of the batched rows. -/
def refU (x : FVec Ideal S256x1024 .f32) (wu : FVec Ideal S1024x5632 .f32) : FVec Ideal S32x8x5632 .f32 :=
  Host.dotGeneral dot_S32x8x1024_S1024x5632_S32x8x5632_2_0_01_1_n_n none
    (shapeCast S32x8x1024 x shapeCasts_S256x1024_S32x8x1024) wu

/-- The rows of a sequence after its two kept rows. -/
def refP (hist : FVec Ideal S32x2x5632 .f32) (u : FVec Ideal S32x8x5632 .f32) : FVec Ideal S32x10x5632 .f32 :=
  concatenate S32x10x5632 1 [⟨S32x2x5632, hist⟩, ⟨S32x8x5632, u⟩] concatenates_S32x2x5632_S32x8x5632_S32x10x5632_d1

/-- One tap of the convolution, broadcast over the rows. -/
def refW (w : FVec Ideal S1x5632 .f32) : FVec Ideal S32x8x5632 .f32 :=
  broadcastInDim S32x8x5632 ![0, 1, 2] bcast_S1x1x5632_S32x8x5632_0_1_2
    (broadcastInDim S1x1x5632 ![2] bcast_S5632_S1x1x5632_2 (shapeCast S5632 w shapeCasts_S1x5632_S5632))

/-- The convolution. -/
def refC (p : FVec Ideal S32x10x5632 .f32) (cw : FVec Ideal S3x5632 .f32) (cb : FVec Ideal S5632 .f32) :
    FVec Ideal S32x8x5632 .f32 :=
  addf (addf (addf (broadcastInDim S32x8x5632 ![0, 1, 2] bcast_S1x1x5632_S32x8x5632_0_1_2
        (broadcastInDim S1x1x5632 ![2] bcast_S5632_S1x1x5632_2 cb))
      (mulf (refW (extractStridedSlice S1x5632 ![0, 0] cw slices_S3x5632_S1x5632_0_0))
        (extractStridedSlice S32x8x5632 ![0, 0, 0] p slices_S32x10x5632_S32x8x5632_0_0_0)))
      (mulf (refW (extractStridedSlice S1x5632 ![1, 0] cw slices_S3x5632_S1x5632_1_0))
        (extractStridedSlice S32x8x5632 ![0, 1, 0] p slices_S32x10x5632_S32x8x5632_0_1_0)))
      (mulf (refW (extractStridedSlice S1x5632 ![2, 0] cw slices_S3x5632_S1x5632_2_0))
        (extractStridedSlice S32x8x5632 ![0, 2, 0] p slices_S32x10x5632_S32x8x5632_0_2_0))

/-- A constant over the hidden rows. -/
def refK (b : BitVec 32) : FVec Ideal S32x8x2816 .f32 :=
  broadcastInDim S32x8x2816 ![] bcast_S_S32x8x2816 (constant S_ .f32 b)

/-- The gelu of the gate half. -/
def refG (z : FVec Ideal S32x8x2816 .f32) : FVec Ideal S32x8x2816 .f32 :=
  mulf z (mulf (refK 0x3F000000#32) (addf (refK 0x3F800000#32)
    (Host.tanh (mulf (refK 0x3F4C422A#32) (addf z (mulf (refK 0x3D372713#32) (mulf (mulf z z) z)))))))

/-- The hidden rows. -/
def refH (c : FVec Ideal S32x8x5632 .f32) : FVec Ideal S32x8x2816 .f32 :=
  mulf (refG (extractStridedSlice S32x8x2816 ![0, 0, 2816] c slices_S32x8x5632_S32x8x2816_0_0_2816))
    (extractStridedSlice S32x8x2816 ![0, 0, 0] c slices_S32x8x5632_S32x8x2816_0_0_0)

/-- The residual sum. -/
def refR (x : FVec Ideal S256x1024 .f32) (h : FVec Ideal S32x8x2816 .f32) (wd : FVec Ideal S2816x1024 .f32) :
    FVec Ideal S32x8x1024 .f32 :=
  addf (mulf (broadcastInDim S32x8x1024 ![] bcast_S_S32x8x1024 (constant S_ .f32 0x3FD744FD#32))
      (shapeCast S32x8x1024 x shapeCasts_S256x1024_S32x8x1024))
    (Host.dotGeneral dot_S32x8x2816_S2816x1024_S32x8x1024_2_0_01_1_n_n none h wd)

/-- A row's mean. -/
def refM (r : FVec Ideal S32x8x1024 .f32) : FVec Ideal S32x8x1 .f32 :=
  Host.divf (broadcastInDim S32x8x1 ![0, 1] bcast_S32x8_S32x8x1_0_1
      (Host.reduceAdd r (constant S_ .f32 0x00000000#32) reducesTo_S32x8x1024_S32x8_d2 h_S_))
    (broadcastInDim S32x8x1 ![] bcast_S_S32x8x1 (constant S_ .f32 0x44800000#32))

/-- A row's distance from its mean. -/
def refD (r : FVec Ideal S32x8x1024 .f32) : FVec Ideal S32x8x1024 .f32 :=
  subf r (broadcastInDim S32x8x1024 ![0, 1, 2] bcast_S32x8x1_S32x8x1024_0_1_2 (refM r))

/-- The layer norm. -/
def refLN (r : FVec Ideal S32x8x1024 .f32) (g b : FVec Ideal S1024 .f32) : FVec Ideal S32x8x1024 .f32 :=
  addf (mulf (mulf (refD r) (broadcastInDim S32x8x1024 ![0, 1, 2] bcast_S32x8x1_S32x8x1024_0_1_2
        (Host.rsqrt (addf (refM (mulf (refD r) (refD r)))
          (broadcastInDim S32x8x1 ![] bcast_S_S32x8x1 (constant S_ .f32 0x3727C5AC#32))))))
      (broadcastInDim S32x8x1024 ![0, 1, 2] bcast_S1x1x1024_S32x8x1024_0_1_2
        (broadcastInDim S1x1x1024 ![2] bcast_S1024_S1x1x1024_2 g)))
    (broadcastInDim S32x8x1024 ![0, 1, 2] bcast_S1x1x1024_S32x8x1024_0_1_2
      (broadcastInDim S1x1x1024 ![2] bcast_S1024_S1x1x1024_2 b))

/-- The reference's first result. -/
def REF (x : FVec Ideal S256x1024 .f32) (hist : FVec Ideal S32x2x5632 .f32) (wu : FVec Ideal S1024x5632 .f32) (cw : FVec Ideal S3x5632 .f32)
    (cb : FVec Ideal S5632 .f32) (wd : FVec Ideal S2816x1024 .f32) (g b : FVec Ideal S1024 .f32) : FVec Ideal S256x1024 .f32 :=
  shapeCast S256x1024 (refLN (refR x (refH (refC (refP hist (refU x wu)) cw cb)) wd) g b) shapeCasts_S32x8x1024_S256x1024

/-- The up-projected rows the reference keeps. -/
def refT (x : FVec Ideal S256x1024 .f32) (hist : FVec Ideal S32x2x5632 .f32) (wu : FVec Ideal S1024x5632 .f32) :
    FVec Ideal S256x5632 .f32 :=
  shapeCast S256x5632 (extractStridedSlice S32x8x5632 ![0, 2, 0] (refP hist (refU x wu)) slices_S32x10x5632_S32x8x5632_0_2_0)
    shapeCasts_S32x8x5632_S256x5632

/-- The reference's second result. -/
def REFA (x : FVec Ideal S256x1024 .f32) (hist : FVec Ideal S32x2x5632 .f32) (wu : FVec Ideal S1024x5632 .f32) :
    FVec Ideal S256x2816 .f32 :=
  extractStridedSlice S256x2816 ![0, 0] (refT x hist wu) slices_S256x5632_S256x2816_0_0

/-- The reference's third result. -/
def REFB (x : FVec Ideal S256x1024 .f32) (hist : FVec Ideal S32x2x5632 .f32) (wu : FVec Ideal S1024x5632 .f32) :
    FVec Ideal S256x2816 .f32 :=
  extractStridedSlice S256x2816 ![0, 2816] (refT x hist wu) slices_S256x5632_S256x2816_0_2816

/-- The up projection at an entry. -/
theorem refU_at (x wu) (i : Fin 32) (t : Fin 8) (f : Fin 5632) (n : Fin 256) (hn : n.val = 8 * i.val + t.val) :
    refU x wu (ix3 i t f) = uv x wu n f := by
  pointwise [refU, uv]
  refine Finset.sum_congr rfl fun d _ => ?_
  exact congrArg (fun z => x (ix2 z d) * wu (ix2 d f)) (Fin.ext (by simp; omega))

/-- The rows with their history at an entry. -/
theorem refP_at (hist p) (i : Fin 32) (q : Fin 10) (f : Fin 5632) :
    refP hist p (ix3 i q f) = if h : q.val < 2 then hist (ix3 i ⟨q.val, h⟩ f) else p (ix3 i ⟨q.val - 2, by omega⟩ f) := by
  pointwise [refP]

/-- The hidden rows at an entry. -/
theorem refH_at (c) (i : Fin 32) (t : Fin 8) (f : Fin 2816)  :
    refH c (ix3 i t f) = gel (c (ix3 i t ⟨2816 + f.val, by omega⟩)) * c (ix3 i t ⟨f.val, by omega⟩) := by
  pointwise [refH, refG, refK, gel]
  congr 1
  rw [mul_left_comm, ← mul_assoc]

/-- The residual sum at an entry. -/
theorem refR_at (x h wd) (i : Fin 32) (t : Fin 8) (d : Fin 1024) (n : Fin 256) (hn : n.val = 8 * i.val + t.val) :
    refR x h wd (ix3 i t d) = Ideal.ofBits FTy.f32 1071072509#32 * x (ix2 n d) + ∑ f : Fin 2816, h (ix3 i t f) * wd (ix2 f d) := by
  pointwise [refR]
  congr 1
  exact congrArg (fun z => Ideal.ofBits FTy.f32 1071072509#32 * x (ix2 z d)) (Fin.ext (by simp; omega))

/-- The layer norm at an entry. -/
theorem refLN_at (r g b) (i : Fin 32) (t : Fin 8) (d : Fin 1024)  :
    refLN r g b (ix3 i t d) = lnv (fun d => r (ix3 i t d)) (g (ix1 d)) (b (ix1 d)) d := by
  pointwise [refLN, refD, refM, lnv]

/-- The rows with their history, read `s` rows early. -/
theorem refP_up (x hist wu) (i : Fin 32) (t : Fin 8) (f : Fin 5632) (n : Fin 256) (hn : n.val = 8 * i.val + t.val)
    (s : Fin 3) (q : Fin 10) (hq : q.val + s.val = t.val + 2) :
    refP hist (refU x wu) (ix3 i q f) = up x hist wu s n f := by
  rw [refP_at]
  have hm : n.val % 8 = t.val := by omega
  unfold up
  by_cases h : q.val < 2
  · rw [dif_pos h, if_neg (by omega)]
    have e1 : (⟨n.val / 8, by omega⟩ : Fin 32) = i := Fin.ext (by simp only; omega)
    have e2 : (⟨(n.val % 8 + 2 - s.val) % 2, Nat.mod_lt _ (by omega)⟩ : Fin 2) = ⟨q.val, h⟩ := Fin.ext (by simp only; omega)
    rw [e1, e2]
  · rw [dif_neg h, if_pos (by omega)]
    exact refU_at x wu i _ f _ (by simp only; omega)

/-- The convolution at an entry. -/
theorem refC_at (x hist wu cw cb) (i : Fin 32) (t : Fin 8) (f : Fin 5632) (n : Fin 256) (hn : n.val = 8 * i.val + t.val) :
    refC (refP hist (refU x wu)) cw cb (ix3 i t f) = cv x hist wu cw cb n f := by
  pointwise [refC, refW]
  rw [refP_up x hist wu i t f n hn 2 _ (by simp), refP_up x hist wu i t f n hn 1 _ (by simp; omega),
    refP_up x hist wu i t f n hn 0 _ (by simp; omega)]
  rfl

/-- The reference's first result at an entry. -/
theorem REF_at (x hist wu cw cb wd g b) (n : Fin 256) (d : Fin 1024) :
    REF x hist wu cw cb wd g b (ix2 n d) = lnv (res x hist wu cw cb wd n) (g (ix1 d)) (b (ix1 d)) d := by
  have h : REF x hist wu cw cb wd g b (ix2 n d) = refLN (refR x (refH (refC (refP hist (refU x wu)) cw cb)) wd) g b
      (ix3 ⟨n.val / 8, by omega⟩ ⟨n.val % 8, by omega⟩ d) := by
    pointwise [REF]
  rw [h, refLN_at]
  have hn : n.val = 8 * (n.val / 8) + n.val % 8 := by omega
  congr 1
  funext e
  rw [refR_at _ _ _ _ _ _ n hn]
  unfold res
  congr 1
  refine Finset.sum_congr rfl fun f _ => ?_
  rw [refH_at, refC_at _ _ _ _ _ _ _ _ n hn, refC_at _ _ _ _ _ _ _ _ n hn]
  rfl

/-- The reference's second result at an entry. -/
theorem REFA_at (x hist wu) (n : Fin 256) (f : Fin 2816) (f' : Fin 5632) (hf : f'.val = f.val) :
    REFA x hist wu (ix2 n f) = uv x wu n f' := by
  pointwise [REFA, refT]
  rw [refP_up x hist wu ⟨n.val / 8, by omega⟩ ⟨n.val % 8, by omega⟩ _ n (by simp only; omega) 0 _ (by simp; omega), up,
    if_pos (show (0 : Fin 3).val ≤ n.val % 8 from Nat.zero_le _)]
  exact congrArg (uv x wu n) (Fin.ext (by simp; omega))

/-- The reference's third result at an entry. -/
theorem REFB_at (x hist wu) (n : Fin 256) (f : Fin 2816) (f' : Fin 5632) (hf : f'.val = 2816 + f.val) :
    REFB x hist wu (ix2 n f) = uv x wu n f' := by
  pointwise [REFB, refT]
  rw [refP_up x hist wu ⟨n.val / 8, by omega⟩ ⟨n.val % 8, by omega⟩ _ n (by simp only; omega) 0 _ (by simp; omega), up,
    if_pos (show (0 : Fin 3).val ≤ n.val % 8 from Nat.zero_le _)]
  exact congrArg (uv x wu n) (Fin.ext (by simp; omega))

end Cert.FfsProof

end
-- ==== Proof.FfsPoint.lean ====
/- The blocks the sample's feed-forward kernel reads at a point, and its convolution there. -/
module

public import proofs.«01_k».proof.Proof.FfsBody
public import proofs.«01_k».proof.Proof.FfsRef
public import Idealize.ShloMosaic.Lib.Pipeline.ValueKit
public import Idealize.ShloMosaic.Lib.Pointwise
public import Idealize.ShloMosaic.Lib.KernelVsHost
public import Idealize.ShloMosaic.Lib.Pipeline.ReadBack

@[expose] public section

set_option maxRecDepth 16384

noncomputable section

open Idealize.ShloMosaic Idealize.ShloMosaic.TcCoe Idealize.SL.Sem
open Cert.FfsIdeal Cert.FfsIdeal.Gen
open Cert.FfnProof (gel lnv)

namespace Cert.FfsProof

variable (m : (ℓ : Loc nD τ sig) → Buf (Elt Ideal) ℓ)

/-- Which block of its array each window stages at a grid point. -/
theorem idx : ∀ t : Fin cfg0.N, win0_0.index t = ![0, 0]
    ∧ win0_1.index t = ![0, 0, t.val]
    ∧ win0_2.index t = ![0, 0, t.val + 11]
    ∧ win0_3.index t = ![0, t.val]
    ∧ win0_4.index t = ![0, t.val + 11]
    ∧ win0_5.index t = ![0, t.val]
    ∧ win0_6.index t = ![0, t.val + 11]
    ∧ win0_7.index t = ![0, t.val]
    ∧ win0_8.index t = ![0, t.val + 11]
    ∧ win0_9.index t = ![t.val, 0]
    ∧ win0_10.index t = ![0, 0]
    ∧ win0_11.index t = ![0, 0]
    ∧ win0_12.index t = ![0, 0]
    ∧ win0_13.index t = ![0, t.val]
    ∧ win0_14.index t = ![0, t.val] :=
  (by decide +kernel : ∀ t : Fin grid0.N, _)

/-- The grid has eleven points. -/
theorem N_lt (t : Fin cfg0.N) : t.val < 11 := t.isLt

/-- The activations of the call on a device. -/
abbrev aX (c : Dev nD) : FVec Ideal S256x1024 .f32 := m ((c : Thread nD τ).loc main_arg0)
/-- The kept up-projected rows. -/
abbrev aH (c : Dev nD) : FVec Ideal S32x2x5632 .f32 := m ((c : Thread nD τ).loc main_arg1)
/-- The up projection's weight. -/
abbrev aU (c : Dev nD) : FVec Ideal S1024x5632 .f32 := m ((c : Thread nD τ).loc main_arg2)
/-- The convolution's taps. -/
abbrev aC (c : Dev nD) : FVec Ideal S3x5632 .f32 := m ((c : Thread nD τ).loc main_arg3)
/-- The convolution's bias. -/
abbrev aB (c : Dev nD) : FVec Ideal S5632 .f32 := m ((c : Thread nD τ).loc main_arg4)
/-- The down projection's weight. -/
abbrev aD (c : Dev nD) : FVec Ideal S2816x1024 .f32 := m ((c : Thread nD τ).loc main_arg5)

/-- The staged activations. -/
theorem x_row (c : Dev nD) (t : Fin cfg0.N) (p : Fin 256) (d : Fin 1024) : iblk m c 0 t (ix2 p d) = aX m c (ix2 p d) := by
  blk_point [iblk, V, idx t] <;> omega

/-- The up projection's weight, value half. -/
theorem wu_a (c : Dev nD) (t : Fin cfg0.N) (k : Fin 256) (f : Fin 5632) (hf : f.val = 256 * t.val + k.val) (d : Fin 1024) :
    iblk m c 3 t (ix2 d k) = aU m c (ix2 d f) := by
  blk_point [iblk, V, idx t] <;> omega

/-- And gate half. -/
theorem wu_b (c : Dev nD) (t : Fin cfg0.N) (k : Fin 256) (f : Fin 5632) (hf : f.val = 2816 + (256 * t.val + k.val)) (d : Fin 1024) :
    iblk m c 4 t (ix2 d k) = aU m c (ix2 d f) := by
  blk_point [iblk, V, idx t] <;> omega

/-- The taps, value half. -/
theorem cw_a (c : Dev nD) (t : Fin cfg0.N) (k : Fin 256) (f : Fin 5632) (hf : f.val = 256 * t.val + k.val) (e : Fin 3) :
    iblk m c 5 t (ix2 e k) = aC m c (ix2 e f) := by
  blk_point [iblk, V, idx t] <;> omega

/-- And gate half. -/
theorem cw_b (c : Dev nD) (t : Fin cfg0.N) (k : Fin 256) (f : Fin 5632) (hf : f.val = 2816 + (256 * t.val + k.val)) (e : Fin 3) :
    iblk m c 6 t (ix2 e k) = aC m c (ix2 e f) := by
  blk_point [iblk, V, idx t] <;> omega

/-- The bias, value half. -/
theorem cb_a (c : Dev nD) (t : Fin cfg0.N) (k : Fin 256) (f : Fin 5632) (hf : f.val = 256 * t.val + k.val) :
    iblk m c 7 t (ix2 0 k) = aB m c (ix1 f) := by
  simp only [iblk, V, hostOps0, hostOps0_1, hostOps0_2, List.flatten_cons, List.flatten_nil, List.append_nil, List.cons_append, List.nil_append]
  blk_point [idx t] <;> omega

/-- And gate half. -/
theorem cb_b (c : Dev nD) (t : Fin cfg0.N) (k : Fin 256) (f : Fin 5632) (hf : f.val = 2816 + (256 * t.val + k.val)) :
    iblk m c 8 t (ix2 0 k) = aB m c (ix1 f) := by
  simp only [iblk, V, hostOps0, hostOps0_1, hostOps0_2, List.flatten_cons, List.flatten_nil, List.append_nil, List.cons_append, List.nil_append]
  blk_point [idx t] <;> omega

/-- The down projection's weight. -/
theorem wd_at (c : Dev nD) (t : Fin cfg0.N) (k : Fin 256) (f : Fin 2816) (hf : f.val = 256 * t.val + k.val) (d : Fin 1024) :
    iblk m c 9 t (ix2 k d) = aD m c (ix2 f d) := by
  blk_point [iblk, V, idx t] <;> omega

/-- The norm's scale. -/
theorem g_at (c : Dev nD) (t : Fin cfg0.N) (d : Fin 1024) :
    iblk m c 10 t (ix2 0 d) = m ((c : Thread nD τ).loc main_arg6) (ix1 d) := by
  simp only [iblk, V, hostOps0, hostOps0_1, hostOps0_2, List.flatten_cons, List.flatten_nil, List.append_nil, List.cons_append, List.nil_append]
  blk_point [idx t]

/-- The norm's shift. -/
theorem b_at (c : Dev nD) (t : Fin cfg0.N) (d : Fin 1024) :
    iblk m c 11 t (ix2 0 d) = m ((c : Thread nD τ).loc main_arg7) (ix1 d) := by
  simp only [iblk, V, hostOps0, hostOps0_1, hostOps0_2, List.flatten_cons, List.flatten_nil, List.append_nil, List.cons_append, List.nil_append]
  blk_point [idx t]

/-- What the host pads the kept rows to: six rows of zeros before them. -/
theorem v0_eq (c : Dev nD) : V m c main_v0 = (pad S32x8x5632 ![0, 6, 0] ![0, 0, 0] ![0, 0, 0] (aH m c)
    (sitofp .f32 (constantI S_ 32 0#32) : FVec Ideal S_ .f32) pads_S32x2x5632_S32x8x5632_000_600_000 h_S_ : FVec Ideal S32x8x5632 .f32) := by
  simp only [V, hostOps0, hostOps0_1, hostOps0_2, List.flatten_cons, List.flatten_nil, List.append_nil, List.cons_append,
    List.nil_append]
  after_results_simp
  rfl

/-- A padded row past the sixth is a kept one. -/
theorem pad_row (c : Dev nD) (j : S32x8x5632.Idx) (i : Fin 32) (e : Fin 2) (f : Fin 5632) (h0 : (j 0).val = i.val)
    (h1 : (j 1).val = 6 + e.val) (h2 : (j 2).val = f.val) : (V m c main_v0 : FVec Ideal S32x8x5632 .f32) j = aH m c (ix3 i e f) := by
  rw [v0_eq]
  refine pad_apply_of_inside _ _ _ _ _ _ _ _ (ix3 i e f) fun a => ?_
  fin_cases a
  · simpa [ix3] using h0
  · simpa [ix3] using h1
  · simpa [ix3] using h2

/-- The kept rows stand in the last two of the eight staged, value half. -/
theorem hist_a (c : Dev nD) (t : Fin cfg0.N) (k : Fin 256) (f : Fin 5632) (hf : f.val = 256 * t.val + k.val) (i : Fin 32)
    (q : Fin 8) (e : Fin 2) (hq : q.val = 6 + e.val) : iblk m c 1 t (ix3 i q k) = aH m c (ix3 i e f) := by
  exact pad_row m c _ i e f (by blk_simp [idx t]) (by blk_simp [idx t]; omega) (by blk_simp [idx t]; omega)

/-- And gate half. -/
theorem hist_b (c : Dev nD) (t : Fin cfg0.N) (k : Fin 256) (f : Fin 5632) (hf : f.val = 2816 + (256 * t.val + k.val)) (i : Fin 32)
    (q : Fin 8) (e : Fin 2) (hq : q.val = 6 + e.val) : iblk m c 2 t (ix3 i q k) = aH m c (ix3 i e f) := by
  exact pad_row m c _ i e f (by blk_simp [idx t]) (by blk_simp [idx t]; omega) (by blk_simp [idx t]; omega)

/-- The first point's activations are the whole array, and they stay. -/
theorem xb_row (c : Dev nD) : ∀ (k : ℕ) (h : k < cfg0.N) (p : Fin 256) (d : Fin 1024),
    XB m c k h (ix2 p d) = aX m c (ix2 p d) := by
  intro k
  induction k with
  | zero =>
    intro h p d
    rw [xb_start m c ⟨0, h⟩ rfl]
    have e := x_row m c ⟨0, h⟩ p d
    refine Eq.trans ?_ e
    pointwise [k0_pay3]
  | succ k ih =>
    intro h p d
    have hN : k + 1 < 11 := h
    rw [xb_next m c ⟨k + 1, h⟩ (by simp only; omega)]
    exact ih _ p d

/-- A row turned by `s` with its start filled from `h`: the row `s` before, or `h`'s at the end. -/
theorem turn (sb : BitVec 32) (s : ℕ) (hs : sb.toNat = s) (h2 : s ≤ 2)
    (hc : ∀ t : Fin 8, (IntOp.cmpi .slt (BitVec.ofNat 32 t.val) sb : BitVec 1) = if t.val < s then 1#1 else 0#1)
    (h u : FVec Ideal S32x8x256 .f32) (i : Fin 32) (t q : Fin 8) (k : Fin 256) (hq : q.val = (t.val + 8 - s) % 8) :
    select (cmpi .slt (iota .tc S32x8x256 32 [1] iota_S32x8x256_d1_w32) (broadcast S32x8x256 sb))
        (dynamicRotate 1 sb none h rotates_S32x8x256_d1) (dynamicRotate 1 sb none u rotates_S32x8x256_d1) (ix3 i t k)
      = if t.val < s then h (ix3 i q k) else u (ix3 i q k) := by
  have r : ∀ v : FVec Ideal S32x8x256 .f32, dynamicRotate 1 sb none v rotates_S32x8x256_d1 (ix3 i t k) = v (ix3 i q k) := by
    intro v
    refine dynamicRotate_apply _ _ _ _ _ _ fun b => ?_
    fin_cases b
    · rfl
    · rw [hs]
      simp [hq, ix3]
      omega
    · rfl
  pointwise [r]
  rw [hc t]
  split <;> rfl

end Cert.FfsProof

end
-- ==== Proof.FfsValue.lean ====
/- The convolution and the running down projection of the sample's feed-forward kernel. -/
module

public import proofs.«01_k».proof.Proof.FfsPoint
public import Idealize.ShloMosaic.Lib.StableHlo.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.FfsIdeal Cert.FfsIdeal.Gen
open Cert.FfnProof (gel lnv)

namespace Cert.FfsProof

variable (m : (ℓ : Loc nD τ sig) → Buf (Elt Ideal) ℓ)

/-- The two comparisons a turn makes. -/
theorem lt_one : ∀ t : Fin 8, (IntOp.cmpi .slt (BitVec.ofNat 32 t.val) 1#32 : BitVec 1) = if t.val < 1 then 1#1 else 0#1 := by
  decide

/-- The same for a turn by two. -/
theorem lt_two : ∀ t : Fin 8, (IntOp.cmpi .slt (BitVec.ofNat 32 t.val) 2#32 : BitVec 1) = if t.val < 2 then 1#1 else 0#1 := by
  decide

/-- A turn of up-projected rows over the kept ones is the shifted up projection. -/
theorem turn_up (c : Dev nD) (sb : BitVec 32) (s : Fin 3) (hs : sb.toNat = s.val)
    (hc : ∀ t : Fin 8, (IntOp.cmpi .slt (BitVec.ofNat 32 t.val) sb : BitVec 1) = if t.val < s.val then 1#1 else 0#1)
    (h u : FVec Ideal S32x8x256 .f32) (k : Fin 256) (f : Fin 5632)
    (hu : ∀ (i : Fin 32) (t : Fin 8) (n : Fin 256), n.val = 8 * i.val + t.val → u (ix3 i t k) = uv (aX m c) (aU m c) n f)
    (hh : ∀ (i : Fin 32) (q : Fin 8) (e : Fin 2), q.val = 6 + e.val → h (ix3 i q k) = aH m c (ix3 i e f))
    (i : Fin 32) (t : Fin 8) (n : Fin 256) (hn : n.val = 8 * i.val + t.val) :
    select (cmpi .slt (iota .tc S32x8x256 32 [1] iota_S32x8x256_d1_w32) (broadcast S32x8x256 sb))
        (dynamicRotate 1 sb none h rotates_S32x8x256_d1) (dynamicRotate 1 sb none u rotates_S32x8x256_d1) (ix3 i t k)
      = up (aX m c) (aH m c) (aU m c) s n f := by
  rw [turn sb s.val hs (by omega) hc h u i t ⟨(t.val + 8 - s.val) % 8, Nat.mod_lt _ (by omega)⟩ k rfl]
  unfold up
  by_cases hlt : t.val < s.val
  · rw [if_pos hlt, if_neg (by omega),
      hh i _ ⟨(n.val % 8 + 2 - s.val) % 2, Nat.mod_lt _ (by omega)⟩ (by simp only; omega)]
    have e1 : (⟨n.val / 8, by omega⟩ : Fin 32) = i := Fin.ext (by simp only; omega)
    rw [e1]
  · rw [if_neg hlt, if_pos (by omega)]
    exact hu i _ _ (by simp only; omega)

/-- The value half's up-projected rows at a point. -/
theorem u_a (c : Dev nD) (t : Fin cfg0.N) (k : Fin 256) (f : Fin 5632) (hf : f.val = 256 * t.val + k.val) (i : Fin 32) (e : Fin 8) (n : Fin 256) (hn : n.val = 8 * i.val + e.val) :
    k0_pay6 (XB m c t.val t.isLt) (iblk m c 3 t) (ix3 i e k) = uv (aX m c) (aU m c) n f := by
  pointwise [k0_pay6, k0_pay5]
  unfold uv
  refine Finset.sum_congr rfl fun d _ => ?_
  rw [xb_row m c t.val t.isLt, wu_a m c t k f hf d]
  exact congrArg (fun z => aX m c (ix2 z d) * aU m c (ix2 d f)) (Fin.ext (by show i.val * 8 + e.val = n.val; omega))

/-- The staged history, as the body turns it. -/
theorem hist7_a (c : Dev nD) (t : Fin cfg0.N) (k : Fin 256) (f : Fin 5632) (hf : f.val = 256 * t.val + k.val) (i : Fin 32) (q : Fin 8) (e : Fin 2) (hq : q.val = 6 + e.val) :
    k0_pay7 (iblk m c 1 t) (ix3 i q k) = aH m c (ix3 i e f) := by
  rw [← hist_a m c t k f hf i q e hq]
  pointwise [k0_pay7]

/-- The same one row before. -/
theorem u1_a (c : Dev nD) (t : Fin cfg0.N) (k : Fin 256) (f : Fin 5632) (hf : f.val = 256 * t.val + k.val) (i : Fin 32) (e : Fin 8) (n : Fin 256) (hn : n.val = 8 * i.val + e.val) :
    k0_pay8 (XB m c t.val t.isLt) (iblk m c 3 t) (iblk m c 1 t) (ix3 i e k) = up (aX m c) (aH m c) (aU m c) 1 n f :=
  turn_up m c 1#32 1 rfl lt_one (k0_pay7 (iblk m c 1 t)) (k0_pay6 (XB m c t.val t.isLt) (iblk m c 3 t)) k f (u_a m c t k f hf)
    (hist7_a m c t k f hf) i e n hn

/-- The first tap's product, two rows before, over the bias. -/
theorem u2_a (c : Dev nD) (t : Fin cfg0.N) (k : Fin 256) (f : Fin 5632) (hf : f.val = 256 * t.val + k.val) (i : Fin 32) (e : Fin 8) (n : Fin 256) (hn : n.val = 8 * i.val + e.val) :
    k0_pay9 (XB m c t.val t.isLt) (iblk m c 3 t) (iblk m c 1 t) (iblk m c 5 t) (iblk m c 7 t) (ix3 i e k)
      = aB m c (ix1 f) + aC m c (ix2 0 f) * up (aX m c) (aH m c) (aU m c) 2 n f := by
  have U := turn_up m c 2#32 2 rfl lt_two (k0_pay7 (iblk m c 1 t)) (k0_pay6 (XB m c t.val t.isLt) (iblk m c 3 t)) k f (u_a m c t k f hf)
    (hist7_a m c t k f hf) i e n hn
  rw [← U, ← cb_a m c t k f hf, ← cw_a m c t k f hf]
  pointwise [k0_pay9]

/-- The gate half's up-projected rows at a point. -/
theorem u_b (c : Dev nD) (t : Fin cfg0.N) (k : Fin 256) (f : Fin 5632) (hf : f.val = 2816 + (256 * t.val + k.val)) (i : Fin 32) (e : Fin 8) (n : Fin 256) (hn : n.val = 8 * i.val + e.val) :
    k0_pay13 (XB m c t.val t.isLt) (iblk m c 4 t) (ix3 i e k) = uv (aX m c) (aU m c) n f := by
  pointwise [k0_pay13, k0_pay12]
  unfold uv
  refine Finset.sum_congr rfl fun d _ => ?_
  rw [xb_row m c t.val t.isLt, wu_b m c t k f hf d]
  exact congrArg (fun z => aX m c (ix2 z d) * aU m c (ix2 d f)) (Fin.ext (by show i.val * 8 + e.val = n.val; omega))

/-- The staged history, as the body turns it. -/
theorem hist7_b (c : Dev nD) (t : Fin cfg0.N) (k : Fin 256) (f : Fin 5632) (hf : f.val = 2816 + (256 * t.val + k.val)) (i : Fin 32) (q : Fin 8) (e : Fin 2) (hq : q.val = 6 + e.val) :
    k0_pay14 (iblk m c 2 t) (ix3 i q k) = aH m c (ix3 i e f) := by
  rw [← hist_b m c t k f hf i q e hq]
  pointwise [k0_pay14]

/-- The same one row before. -/
theorem u1_b (c : Dev nD) (t : Fin cfg0.N) (k : Fin 256) (f : Fin 5632) (hf : f.val = 2816 + (256 * t.val + k.val)) (i : Fin 32) (e : Fin 8) (n : Fin 256) (hn : n.val = 8 * i.val + e.val) :
    k0_pay15 (XB m c t.val t.isLt) (iblk m c 4 t) (iblk m c 2 t) (ix3 i e k) = up (aX m c) (aH m c) (aU m c) 1 n f :=
  turn_up m c 1#32 1 rfl lt_one (k0_pay14 (iblk m c 2 t)) (k0_pay13 (XB m c t.val t.isLt) (iblk m c 4 t)) k f (u_b m c t k f hf)
    (hist7_b m c t k f hf) i e n hn

/-- The first tap's product, two rows before, over the bias. -/
theorem u2_b (c : Dev nD) (t : Fin cfg0.N) (k : Fin 256) (f : Fin 5632) (hf : f.val = 2816 + (256 * t.val + k.val)) (i : Fin 32) (e : Fin 8) (n : Fin 256) (hn : n.val = 8 * i.val + e.val) :
    k0_pay16 (XB m c t.val t.isLt) (iblk m c 4 t) (iblk m c 2 t) (iblk m c 6 t) (iblk m c 8 t) (ix3 i e k)
      = aB m c (ix1 f) + aC m c (ix2 0 f) * up (aX m c) (aH m c) (aU m c) 2 n f := by
  have U := turn_up m c 2#32 2 rfl lt_two (k0_pay14 (iblk m c 2 t)) (k0_pay13 (XB m c t.val t.isLt) (iblk m c 4 t)) k f (u_b m c t k f hf)
    (hist7_b m c t k f hf) i e n hn
  rw [← U, ← cb_b m c t k f hf, ← cw_b m c t k f hf]
  pointwise [k0_pay16]

/-- The value half's convolution at a point. -/
theorem conv_a (c : Dev nD) (t : Fin cfg0.N) (k : Fin 256) (f : Fin 5632) (hf : f.val = 256 * t.val + k.val) (n : Fin 256) :
    convA m c t (XB m c t.val t.isLt) (ix2 n k) = cv (aX m c) (aH m c) (aU m c) (aC m c) (aB m c) n f := by
  have hn : n.val = 8 * (n.val / 8) + n.val % 8 := by omega
  have e0 := u_a m c t k f hf ⟨n.val / 8, by omega⟩ ⟨n.val % 8, by omega⟩ n hn
  have e1 := u1_a m c t k f hf ⟨n.val / 8, by omega⟩ ⟨n.val % 8, by omega⟩ n hn
  have e2 := u2_a m c t k f hf ⟨n.val / 8, by omega⟩ ⟨n.val % 8, by omega⟩ n hn
  have h0 : up (aX m c) (aH m c) (aU m c) 0 n f = uv (aX m c) (aU m c) n f :=
    if_pos (show (0 : Fin 3).val ≤ n.val % 8 from Nat.zero_le _)
  unfold cv
  rw [h0, ← e0, ← e1, ← e2, ← cw_a m c t k f hf 1, ← cw_a m c t k f hf 2]
  unfold convA
  generalize k0_pay6 (XB m c t.val t.isLt) (iblk m c 3 t) = A
  generalize k0_pay8 (XB m c t.val t.isLt) (iblk m c 3 t) (iblk m c 1 t) = B
  generalize k0_pay9 (XB m c t.val t.isLt) (iblk m c 3 t) (iblk m c 1 t) (iblk m c 5 t) (iblk m c 7 t) = C
  pointwise [k0_pay11, k0_pay10]

/-- The body's last product at an entry, from the arrays it is made of. -/
theorem last_prod (va : FVec Ideal S256x256 .f32) (u p1 p2 : FVec Ideal S32x8x256 .f32) (w1 : FVec Ideal S1x1x256 .f32) (cw : FVec Ideal S3x256 .f32)
    (acc : FVec Ideal S256x1024 .f32) (wd : FVec Ideal S256x1024 .bf16) (n : Fin 256) (d : Fin 1024) :
    k0_pay1 va u p1 cw p2 w1 acc wd (ix2 n d) = acc (ix2 n d)
      + ∑ k : Fin 256, gel (p2 (ix3 (⟨n.val / 8, by omega⟩ : Fin 32) (⟨n.val % 8, by omega⟩ : Fin 8) k)
            + w1 (ix3 0 0 k)
              * p1 (ix3 (⟨n.val / 8, by omega⟩ : Fin 32) (⟨n.val % 8, by omega⟩ : Fin 8) k)
            + cw (ix2 2 k) * u (ix3 (⟨n.val / 8, by omega⟩ : Fin 32) (⟨n.val % 8, by omega⟩ : Fin 8) k))
          * va (ix2 n k) * wd (ix2 k d) := by
  simp only [gel]
  pointwise [k0_pay1]

/-- The gate half's convolution at a point. -/
theorem conv_b (c : Dev nD) (t : Fin cfg0.N) (k : Fin 256) (f : Fin 5632) (hf : f.val = 2816 + (256 * t.val + k.val))
    (i : Fin 32) (e : Fin 8) (n : Fin 256) (hn : n.val = 8 * i.val + e.val) :
    k0_pay16 (XB m c t.val t.isLt) (iblk m c 4 t) (iblk m c 2 t) (iblk m c 6 t) (iblk m c 8 t) (ix3 i e k)
      + k0_pay17 (iblk m c 6 t) (ix3 0 0 k)
        * k0_pay15 (XB m c t.val t.isLt) (iblk m c 4 t) (iblk m c 2 t) (ix3 i e k)
      + @HMul.hMul (Ideal .f32) (Ideal .f32) (Ideal .f32) _ (iblk m c 6 t (ix2 2 k))
          (k0_pay13 (XB m c t.val t.isLt) (iblk m c 4 t) (ix3 i e k))
      = cv (aX m c) (aH m c) (aU m c) (aC m c) (aB m c) n f := by
  have h0 : up (aX m c) (aH m c) (aU m c) 0 n f = uv (aX m c) (aU m c) n f :=
    if_pos (show (0 : Fin 3).val ≤ n.val % 8 from Nat.zero_le _)
  have hw : k0_pay17 (iblk m c 6 t) (ix3 0 0 k) = aC m c (ix2 1 f) := by
    rw [← cw_b m c t k f hf 1]
    pointwise [k0_pay17]
  rw [u_b m c t k f hf i e n hn, u1_b m c t k f hf i e n hn, u2_b m c t k f hf i e n hn, hw, cw_b m c t k f hf 2]
  unfold cv
  rw [h0]

/-- One point's step adds its columns' share of the down projection. -/
theorem step_at (c : Dev nD) (t : Fin cfg0.N) (acc : FVec Ideal S256x1024 .f32) (n : Fin 256) (d : Fin 1024) :
    step m c t (XB m c t.val t.isLt) acc (ix2 n d) = acc (ix2 n d)
      + ∑ k : Fin 256, hid (aX m c) (aH m c) (aU m c) (aC m c) (aB m c) n ⟨256 * t.val + k.val, by have := N_lt t; omega⟩
          * aD m c (ix2 ⟨256 * t.val + k.val, by have := N_lt t; omega⟩ d) := by
  have hN := N_lt t
  unfold step
  rw [last_prod]
  refine congrArg (fun z => acc (ix2 n d) + z) (Finset.sum_congr rfl fun k _ => ?_)
  rw [conv_a m c t k ⟨256 * t.val + k.val, by omega⟩ rfl n,
    conv_b m c t k ⟨2816 + (256 * t.val + k.val), by omega⟩ rfl _ _ n (by simp only; omega),
    wd_at m c t k ⟨256 * t.val + k.val, by omega⟩ rfl]
  rfl

/-- A hidden column's term of the down projection, zero past the last column. -/
def term (c : Dev nD) (n : Fin 256) (d : Fin 1024) (f : ℕ) : EReal :=
  if h : f < 2816 then hid (aX m c) (aH m c) (aU m c) (aC m c) (aB m c) n ⟨f, h⟩ * aD m c (ix2 ⟨f, h⟩ d) else 0

/-- A point's share as a sum of such terms. -/
theorem share_eq (c : Dev nD) (t : Fin cfg0.N) (n : Fin 256) (d : Fin 1024) :
    ∑ k : Fin 256, hid (aX m c) (aH m c) (aU m c) (aC m c) (aB m c) n ⟨256 * t.val + k.val, by have := N_lt t; omega⟩
          * aD m c (ix2 ⟨256 * t.val + k.val, by have := N_lt t; omega⟩ d)
      = ∑ k ∈ Finset.range 256, term m c n d (256 * t.val + k) := by
  have hN := N_lt t
  rw [Finset.sum_range]
  refine Finset.sum_congr rfl fun k _ => ?_
  rw [term, dif_pos (by omega)]

/-- After a point the running down projection is the sum over the hidden columns met so far. -/
theorem acc_at (c : Dev nD) : ∀ (k : ℕ) (h : k < cfg0.N) (n : Fin 256) (d : Fin 1024),
    ACC m c k h (ix2 n d) = ∑ f ∈ Finset.range (256 * (k + 1)), term m c n d f := by
  intro k
  induction k with
  | zero =>
    intro h n d
    rw [acc_start m c ⟨0, h⟩ rfl, step_at m c ⟨0, h⟩ _ n d, share_eq]
    have hz : (k0_pay4 (F := Ideal)) (ix2 n d) = (0 : EReal) := by
      pointwise [k0_pay4]
    show (k0_pay4 (F := Ideal)) (ix2 n d) + _ = _
    rw [hz, zero_add]
    simp
  | succ k ih =>
    intro h n d
    have hN : k + 1 < 11 := h
    rw [acc_next m c ⟨k + 1, h⟩ (by simp only; omega), step_at m c ⟨k + 1, h⟩ _ n d, share_eq]
    show ACC m c k _ (ix2 n d) + _ = _
    rw [ih _ n d, show 256 * (k + 1 + 1) = 256 * (k + 1) + 256 by ring, Finset.sum_range_add]

/-- At the last point it is the whole down projection. -/
theorem acc_last (c : Dev nD) (t : Fin cfg0.N) (h1 : t.val % 11 = 10) (n : Fin 256) (d : Fin 1024) :
    ACC m c t.val t.isLt (ix2 n d)
      = ∑ f : Fin 2816, hid (aX m c) (aH m c) (aU m c) (aC m c) (aB m c) n f * aD m c (ix2 f d) := by
  have hN := N_lt t
  rw [acc_at m c t.val t.isLt n d, show t.val = 10 by omega, Finset.sum_range]
  refine Finset.sum_congr rfl fun f _ => ?_
  rw [term, dif_pos f.isLt]

/-- The body's norm at an entry, from the arrays it is made of. -/
theorem norm_at (x acc : FVec Ideal S256x1024 .f32) (g b : FVec Ideal S1x1024 .f32) (p : Fin 256) (d : Fin 1024) :
    k0_pay2 (F := Ideal) x acc g b (ix2 p d)
      = lnv (fun e => Ideal.ofBits FTy.f32 1071072509#32 * x (ix2 p e) + acc (ix2 p e)) (g (ix2 0 d)) (b (ix2 0 d)) d := by
  simp only [lnv]
  pointwise [k0_pay2]

/-- The normed rows the last point stores. -/
theorem norm_row (c : Dev nD) (t : Fin cfg0.N) (h1 : t.val % 11 = 10) (n : Fin 256) (d : Fin 1024) :
    k0_pay2 (iblk m c 0 t) (ACC m c t.val t.isLt) (iblk m c 10 t) (iblk m c 11 t) (ix2 n d)
      = REF (aX m c) (aH m c) (aU m c) (aC m c) (aB m c) (aD m c) (m ((c : Thread nD τ).loc main_arg6))
          (m ((c : Thread nD τ).loc main_arg7)) (ix2 n d) := by
  rw [norm_at, REF_at, g_at, b_at]
  refine congrArg (fun v => lnv v _ _ d) (funext fun e => ?_)
  rw [acc_last m c t h1 n e, x_row m c t n e]
  rfl

end Cert.FfsProof

end
-- ==== Proof.FfsFinal.lean ====
/- The three result arrays of the sample's feed-forward kernel, each whole. -/
module

public import proofs.«01_k».proof.Proof.FfsValue
public import Idealize.ShloMosaic.Lib.StableHlo.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.FfsIdeal Cert.FfsIdeal.Gen
open Cert.FfnProof (gel lnv)

namespace Cert.FfsProof

variable (m : (ℓ : Loc nD τ sig) → Buf (Elt Ideal) ℓ)

/-- The value half's up-projected rows a point stores. -/
theorem ta_at (c : Dev nD) (t : Fin cfg0.N) (k : Fin 256) (f : Fin 5632) (hf : f.val = 256 * t.val + k.val) (n : Fin 256) :
    k0_pay5 (XB m c t.val t.isLt) (iblk m c 3 t) (ix2 n k) = uv (aX m c) (aU m c) n f := by
  pointwise [k0_pay5]
  unfold uv
  refine Finset.sum_congr rfl fun d _ => ?_
  rw [xb_row m c t.val t.isLt, wu_a m c t k f hf d]

/-- The gate half's up-projected rows a point stores. -/
theorem tg_at (c : Dev nD) (t : Fin cfg0.N) (k : Fin 256) (f : Fin 5632) (hf : f.val = 2816 + (256 * t.val + k.val)) (n : Fin 256) :
    k0_pay12 (XB m c t.val t.isLt) (iblk m c 4 t) (ix2 n k) = uv (aX m c) (aU m c) n f := by
  pointwise [k0_pay12]
  unfold uv
  refine Finset.sum_congr rfl fun d _ => ?_
  rw [xb_row m c t.val t.isLt, wu_b m c t k f hf d]

/-- Each result array after the run is the reference's: first the normed rows. -/
theorem final12 (c : Dev nD) : (dats m 0 c).arrAt 12 (cfgs 0).N
    = REF (aX m c) (aH m c) (aU m c) (aC m c) (aB m c) (aD m c) (m ((c : Thread nD τ).loc main_arg6))
        (m ((c : Thread nD τ).loc main_arg7)) := by
  refine (dats m 0 c).arrAt_eq_of_covers 12 _ (by decide +kernel) fun t hf y => ?_
  have h1 := (flush0_12 t).mp hf
  have he : ((cfg0.win 12).blk t).view.emb y = ix2 (y 0) (y 1) := by
    funext a
    fin_cases a <;> apply Fin.ext <;> blk_simp [idx t] <;> simp
  rw [he]
  blk_simp; rw [after0_12, out_last m c t h1, eq_ix2 y]
  exact norm_row m c t h1 _ _

/-- Then the up-projected rows, value half. -/
theorem final13 (c : Dev nD) : (dats m 0 c).arrAt 13 (cfgs 0).N = REFA (aX m c) (aH m c) (aU m c) := by
  refine (dats m 0 c).arrAt_eq_of_covers 13 _ (by decide +kernel) fun t hf y => ?_
  have hN := N_lt t
  have h1 := (y 1).isLt
  simp at h1
  have he : ((cfg0.win 13).blk t).view.emb y = ix2 (y 0) (⟨256 * t.val + (y 1).val, by omega⟩ : Fin 2816) := by
    funext a
    fin_cases a <;> apply Fin.ext <;> blk_simp [idx t] <;> simp <;> omega
  rw [he]
  blk_simp; rw [after0_13, rowsA m c t]
  refine (congrArg _ (eq_ix2 y)).trans (Eq.trans ?_ (REFA_at _ _ _ _ _ ⟨256 * t.val + (y 1).val, by omega⟩ rfl).symm)
  exact ta_at m c t (y 1) ⟨256 * t.val + (y 1).val, by omega⟩ rfl (y 0)

/-- And the gate half. -/
theorem final14 (c : Dev nD) : (dats m 0 c).arrAt 14 (cfgs 0).N = REFB (aX m c) (aH m c) (aU m c) := by
  refine (dats m 0 c).arrAt_eq_of_covers 14 _ (by decide +kernel) fun t hf y => ?_
  have hN := N_lt t
  have h1 := (y 1).isLt
  simp at h1
  have he : ((cfg0.win 14).blk t).view.emb y = ix2 (y 0) (⟨256 * t.val + (y 1).val, by omega⟩ : Fin 2816) := by
    funext a
    fin_cases a <;> apply Fin.ext <;> blk_simp [idx t] <;> simp <;> omega
  rw [he]
  blk_simp; rw [after0_14, rowsB m c t]
  refine (congrArg _ (eq_ix2 y)).trans (Eq.trans ?_ (REFB_at _ _ _ _ _ ⟨2816 + (256 * t.val + (y 1).val), by omega⟩ rfl).symm)
  exact tg_at m c t (y 1) ⟨2816 + (256 * t.val + (y 1).val), by omega⟩ rfl (y 0)

end Cert.FfsProof

end
-- ==== Proof.FfsClaim.lean ====
/- The value claim of the sample's feed-forward call. -/
module

public import proofs.«01_k».proof.Defs
public import proofs.«01_k».proof.Proof.FfsFinal
public import Idealize.ShloMosaic.Lib.Claim

@[expose] public section

set_option maxRecDepth 16384

noncomputable section

open Idealize.ShloMosaic Idealize.ShloMosaic.TcCoe Idealize.SL.Sem

namespace Cert.Proof

set_option maxHeartbeats 4000000 in
/-- The sample's feed-forward kernel and its reference end with the same three results. -/
theorem algebraic_Ffs : Cert.algebraic_FfsIdeal_FfsRefIdeal := by
  pair_intro
  · run_from Cert.FfsIdeal.Gen.run_main m g
    all_goals
      simp only [Cert.FfsIdeal.Gen.hostOps0, Cert.FfsIdeal.Gen.hostOps0_1, Cert.FfsIdeal.Gen.hostOps0_2,
        List.flatten_cons, List.flatten_nil, List.append_nil, List.cons_append, List.nil_append]
      after_results_simp
  · hlo_run
    · exact (Cert.FfsProof.final12 m c).symm
    · exact (Cert.FfsProof.final13 m c).symm
    · exact (Cert.FfsProof.final14 m c).symm

end Cert.Proof

end
-- ==== Proof.FfsRefFrame.lean ====
/- The frame of the sample's feed-forward reference. -/
module

public import proofs.«01_k».proof.Defs
public import proofs.«01_k».proof.Proof.Gen.FfsRefIdeal
public import Idealize.ShloMosaic.Lib.StableHlo.Run
public import proofs.«01_k».proof.Proof.Counters
public import Idealize.ShloMosaic.Lib.Claim

@[expose] public section

set_option maxRecDepth 16384

noncomputable section

open Idealize.ShloMosaic Idealize.ShloMosaic.TcCoe Idealize.SL.Sem

namespace Cert.Proof

set_option maxHeartbeats 4000000 in
/-- The sample's feed-forward reference ends, faults nowhere and leaves its arguments as they were. -/
theorem quiescent_FfsRef : Cert.quiescent_FfsRefIdeal := by
  intro m g _
  refine run_counters (by decide) ?_
  hlo_run

end Cert.Proof

end
-- ==== Proof.GsValue.lean ====
/- The gates of an attention layer (sample): the kernel's array is the reference's sigmoid of the projection. -/
module

public import proofs.«01_k».proof.Proof.Gen.GsIdeal.Value
public import proofs.«01_k».proof.Proof.Gen.GsRefIdeal.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.GsIdeal Cert.GsIdeal.Gen

namespace Cert.GsProof

/-- The reference's gates, as the printed operations compose them. -/
def REF (x : FVec Ideal Cert.GsRefIdeal.S256x1024 .f32) (w : FVec Ideal Cert.GsRefIdeal.S1024x2608 .f32) :
    FVec Ideal Cert.GsRefIdeal.S256x48 .f32 :=
  Host.divf (broadcastInDim Cert.GsRefIdeal.S256x48 ![] Cert.GsRefIdeal.Gen.bcast_S_S256x48 (constant Cert.GsRefIdeal.S_ .f32 0x3F800000#32))
    (addf (broadcastInDim Cert.GsRefIdeal.S256x48 ![] Cert.GsRefIdeal.Gen.bcast_S_S256x48 (constant Cert.GsRefIdeal.S_ .f32 0x3F800000#32))
      (Host.exp (Host.negf (extractStridedSlice Cert.GsRefIdeal.S256x48 ![0, 2560]
        (Host.dotGeneral Cert.GsRefIdeal.dot_S256x1024_S1024x2608_S256x2608_1_0_0_1_n_n none x w)
        Cert.GsRefIdeal.Gen.slices_S256x2608_S256x48_0_2560))))

/-- A point's block and the reference are the same sigmoid of the same sum. -/
theorem sig_at (x : FVec Ideal S256x1024 .f32) (w : FVec Ideal S1024x2608 .f32) (xb : FVec Ideal S256x1024 .bf16)
    (wb : FVec Ideal S1024x48 .bf16) (r : Fin 256) (f : Fin 48) (g : Fin 2608) (hg : g.val = 2560 + f.val)
    (hx : ∀ k : Fin 1024, xb (ix2 r k) = x (ix2 r k)) (hw : ∀ k : Fin 1024, wb (ix2 k f) = w (ix2 k g)) :
    k0_pay2 xb wb (ix2 r f) = REF x w (ix2 r f) := by
  pointwise [REF, k0_pay2]
  have eg : (⟨2560 + f.val, by omega⟩ : Fin 2608) = g := Fin.ext (by simp only; omega)
  simp only [eg, hx, hw]
  try rfl

variable (m : (ℓ : Loc nD τ sig) → Buf (Elt Ideal) ℓ)

/-- Which block of its array each window stages at a grid point. -/
theorem idx : ∀ t : Fin cfg0.N, win0_0.index t = ![0, 0] ∧ win0_1.index t = ![0, 0] ∧ win0_2.index t = ![0, 0] :=
  (by decide +kernel : ∀ t : Fin grid0.N, _)

/-- The activations of the call on a device. -/
abbrev aX (c : Dev nD) : FVec Ideal S256x1024 .f32 := m ((c : Thread nD τ).loc main_arg0)

/-- The projection's weights. -/
abbrev aW (c : Dev nD) : FVec Ideal S1024x2608 .f32 := m ((c : Thread nD τ).loc main_arg1)

/-- The staged activations are the sample's rows. -/
theorem x_blk (c : Dev nD) (t : Fin cfg0.N) (r : Fin 256) (d : Fin 1024) :
    k0_pay1 (iblk m c 0 t) (ix2 r d) = aX m c (ix2 r d) := by
  pointwise [k0_pay1]
  blk_point [iblk, V, idx t] <;> omega

/-- The staged columns of the weights are the projection's last ones. -/
theorem w_at (c : Dev nD) (t : Fin cfg0.N) (k : Fin 1024) (f : Fin 48) (g : Fin 2608) (hg : g.val = 2560 + f.val) :
    iblk m c 1 t (ix2 k f) = aW m c (ix2 k g) := by
  blk_point [iblk, V, idx t] <;> omega

/-- What the point leaves in the staged block of the result. -/
theorem out_eq (c : Dev nD) (t : Fin cfg0.N) : outsAt0 m c t = k0_pay2 (k0_pay1 (iblk m c 0 t)) (iblk m c 1 t) := by
  rw [outsAt0]
  frame_out

/-- The kernel's array after the run is the reference's gates. -/
theorem final2 (c : Dev nD) : (dats m 0 c).arrAt 2 (cfgs 0).N = REF (aX m c) (aW m c) := by
  refine (dats m 0 c).arrAt_eq_of_covers 2 _ (by decide +kernel) fun t hf y => ?_
  have h1 := (y 1).isLt
  simp at h1
  have he : ((cfg0.win 2).blk t).view.emb y = ix2 (y 0) (y 1) := by
    funext a
    fin_cases a <;> apply Fin.ext <;> blk_simp [idx t] <;> simp
  rw [he]
  blk_simp; rw [after0_2, out_eq m c t, eq_ix2 y]
  exact sig_at _ _ _ _ (y 0) (y 1) ⟨2560 + (y 1).val, by omega⟩ rfl (fun k => x_blk m c t (y 0) k)
    (fun k => w_at m c t k (y 1) _ rfl)

end Cert.GsProof

end
-- ==== Proof.QsValue.lean ====
/- The queries of an attention layer (sample): the kernel's array is the reference's projection, token by feature. -/
module

public import proofs.«01_k».proof.Proof.Gen.QsIdeal.Value
public import proofs.«01_k».proof.Proof.Gen.QsRefIdeal.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.QsIdeal Cert.QsIdeal.Gen

namespace Cert.QsProof

/-- The reference's column that stands at the kernel's column `k`: the head groups in the order the kernel reads them. -/
def perm (k : Fin 1024) : Fin 1024 := ⟨k.val / 512 * 512 + k.val / 64 % 2 * 256 + k.val / 128 % 4 * 64 + k.val % 64, by omega⟩

/-- The literal the host gathers the columns by. -/
theorem lit_eq : ∀ k : Fin 1024, (lit0 k).toInt.toNat = (perm k).val := by
  decide +kernel

/-- A gathered column is the column at the index. -/
theorem gather_cols (x : FVec Ideal S1024x1024 .f32) (i : IVec S1024x1 32) (d k g : Fin 1024)
    (hg : min (i (ix2 k 0)).toInt.toNat 1023 = g.val) :
    Host.gather gather_S1024x1024_S1024x1_S1024x1024_0_1_n_n_1_1_10241 x i (ix2 d k) = x (ix2 d g) := by
  set G := gather_S1024x1024_S1024x1_S1024x1024_0_1_n_n_1_1_10241 with hG
  unfold Host.gather
  congr 1
  funext a
  refine Fin.ext ?_
  show G.start (ix2 d k) i a + G.batchCoord (ix2 d k) a + G.offCoord (ix2 d k) a = _
  rw [GatherDims.batchCoord_eq_zero _ _ _ (by rw [hG]; exact List.not_mem_nil)]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ G.startIndexMap by rw [hG]; decide)]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ G.startIndexMap from List.mem_singleton.mpr rfl)]
    have hsi : G.siIdx (ix2 d k) ⟨List.idxOf (1 : Fin 2) G.startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    exact hg

/-- The reference's scaled queries, as the printed operations compose them, head groups in the kernel's order. -/
def REF (x : FVec Ideal Cert.QsRefIdeal.S256x1024 .f32) (w : FVec Ideal Cert.QsRefIdeal.S1024x2608 .f32) :
    FVec Ideal Cert.QsRefIdeal.S256x1024 .bf16 :=
  truncf .bf16 (shapeCast Cert.QsRefIdeal.S256x1024
    (transpose Cert.QsRefIdeal.S256x2x4x2x64 [0, 1, 3, 2, 4]
      (shapeCast Cert.QsRefIdeal.S256x2x2x4x64
        (mulf (extractStridedSlice Cert.QsRefIdeal.S256x1024 ![0, 0]
            (Host.dotGeneral Cert.QsRefIdeal.dot_S256x1024_S1024x2608_S256x2608_1_0_0_1_n_n none x w)
            Cert.QsRefIdeal.Gen.slices_S256x2608_S256x1024_0_0)
          (broadcastInDim Cert.QsRefIdeal.S256x1024 ![] Cert.QsRefIdeal.Gen.bcast_S_S256x1024
            (constant Cert.QsRefIdeal.S_ .f32 0x3E000000#32)))
        Cert.QsRefIdeal.Gen.shapeCasts_S256x1024_S256x2x2x4x64)
      Cert.QsRefIdeal.Gen.transposes_S256x2x2x4x64_S256x2x4x2x64_0_1_3_2_4)
    Cert.QsRefIdeal.Gen.shapeCasts_S256x2x4x2x64_S256x1024) Cert.QsRefIdeal.Gen.bitsLt_bf16_f32

/-- A query feature of a token: the token's row times the feature's column of the projection, scaled. -/
theorem REF_at (x w) (r : Fin 256) (f : Fin 1024) (g : Fin 2608) (hg : g.val = (perm f).val) :
    REF x w (ix2 r f) = (∑ k : Fin 1024, x (ix2 r k) * w (ix2 k g)) * Ideal.ofBits FTy.f32 0x3E000000#32 := by
  have hp : (perm f).val = f.val / 512 * 512 + f.val / 64 % 2 * 256 + f.val / 128 % 4 * 64 + f.val % 64 := rfl
  pointwise [REF]
  refine congrArg (fun z => z * _) (Finset.sum_congr rfl fun k _ => ?_)
  congr 2 <;> (congr 1; exact Fin.ext (by simp; omega))

variable (m : (ℓ : Loc nD τ sig) → Buf (Elt Ideal) ℓ)

/-- Which block of its array each window stages at a grid point. -/
theorem idx : ∀ t : Fin cfg0.N, win0_0.index t = ![0, 0] ∧ win0_1.index t = ![0, t.val] ∧ win0_2.index t = ![0, t.val] :=
  (by decide +kernel : ∀ t : Fin grid0.N, _)

/-- There are two points. -/
theorem N_lt (t : Fin cfg0.N) : t.val < 2 := lt_of_lt_of_eq t.isLt N_0

/-- The activations of the call on a device. -/
abbrev aX (c : Dev nD) : FVec Ideal S256x1024 .f32 := m ((c : Thread nD τ).loc main_arg0)

/-- The projection's weights. -/
abbrev aW (c : Dev nD) : FVec Ideal S1024x2608 .f32 := m ((c : Thread nD τ).loc main_arg1)

/-- The activations the body keeps, after a point. -/
def XB (c : Dev nD) (n : ℕ) (h : n < cfg0.N) : FVec Ideal S256x1024 .bf16 := (outsAt0 m c n h).2

/-- At the first point they are read from the staged block. -/
theorem xb_start (c : Dev nD) (t : Fin cfg0.N) (h0 : t.val % 2 = 0) : XB m c t.val t.isLt = k0_pay1 (iblk m c 0 t) := by
  rw [XB, outsAt0_A m c t h0]
  frame_out

/-- At the others they stay. -/
theorem xb_next (c : Dev nD) (t : Fin cfg0.N) (h0 : ¬t.val % 2 = 0) :
    XB m c t.val t.isLt = XB m c (t.val - 1) (Nat.lt_of_le_of_lt (Nat.sub_le _ _) t.isLt) := by
  rw [XB, outsAt0_B m c t h0]
  dsimp only [sout0_B_0]
  rfl

/-- The staged activations are the sample's rows. -/
theorem x_blk (c : Dev nD) (t : Fin cfg0.N) (r : Fin 256) (d : Fin 1024) :
    k0_pay1 (iblk m c 0 t) (ix2 r d) = aX m c (ix2 r d) := by
  pointwise [k0_pay1]
  blk_point [iblk, V, idx t] <;> omega

/-- So are the kept ones, at every point. -/
theorem xb_at (c : Dev nD) : ∀ (n : ℕ) (h : n < cfg0.N) (r : Fin 256) (d : Fin 1024),
    XB m c n h (ix2 r d) = aX m c (ix2 r d) := by
  intro n
  induction n with
  | zero =>
    intro h r d
    exact (congrFun (xb_start m c ⟨0, h⟩ rfl) _).trans (x_blk m c ⟨0, h⟩ r d)
  | succ n ih =>
    intro h r d
    by_cases h0 : (n + 1) % 2 = 0
    · exact (congrFun (xb_start m c ⟨n + 1, h⟩ h0) _).trans (x_blk m c ⟨n + 1, h⟩ r d)
    · exact (congrFun (xb_next m c ⟨n + 1, h⟩ h0) _).trans (ih _ r d)

/-- What a point leaves in the staged block of the result. -/
theorem out_f32 (c : Dev nD) (t : Fin cfg0.N) : (outsAt0 m c t.val t.isLt).1 = k0_pay2 (XB m c t.val t.isLt) (iblk m c 1 t) := by
  by_cases h0 : t.val % 2 = 0
  · rw [xb_start m c t h0, outsAt0_A m c t h0]
    frame_out
  · rw [xb_next m c t h0, outsAt0_B m c t h0]
    frame_out
    rw [read_unread_whole]
    rfl

/-- A staged column of the weights is the projection's column in the kernel's order. -/
theorem w_at (c : Dev nD) (t : Fin cfg0.N) (d : Fin 1024) (f : Fin 512) (k : Fin 1024) (hk : k.val = 512 * t.val + f.val)
    (g : Fin 2608) (hg : g.val = (perm k).val) : iblk m c 1 t (ix2 d f) = aW m c (ix2 d g) := by
  have hN := N_lt t
  have e : iblk m c 1 t (ix2 d f) = Host.gather gather_S1024x1024_S1024x1_S1024x1024_0_1_n_n_1_1_10241
      (extractStridedSlice S1024x1024 ![0, 0] (aW m c) slices_S1024x2608_S1024x1024_0_0)
      (broadcastInDim S1024x1 ![0] bcast_S1024_S1024x1_0
        (select (constantI S1024 1 0#1)
          (addi (fun i => lit0 (S1024.rowMajor i)) (broadcastInDim S1024 ![] bcast_S_S1024 (constantI S_ 32 1024#32)))
          fun i => lit0 (S1024.rowMajor i))) (ix2 d k) := by
    blk_point [iblk, V, idx t] <;> omega
  rw [e]
  refine (gather_cols _ _ _ _ (perm k) ?_).trans ?_
  · have h := lit_eq k
    have hp := (perm k).isLt
    pointwise []
    have hr : S1024.rowMajor (ix1 k) = k := Fin.ext (Shape.rowMajor_val_one _)
    rw [hr, h]
    omega
  · pointwise []
    exact congrArg (fun z => aW m c (ix2 d z)) (Fin.ext (by simp; omega))

/-- An entry of a point's block. -/
theorem prod_at (c : Dev nD) (t : Fin cfg0.N) (r : Fin 256) (f : Fin 512) (k : Fin 1024) (hk : k.val = 512 * t.val + f.val)
    (g : Fin 2608) (hg : g.val = (perm k).val) :
    k0_pay2 (XB m c t.val t.isLt) (iblk m c 1 t) (ix2 r f)
      = (∑ k : Fin 1024, aX m c (ix2 r k) * aW m c (ix2 k g)) * Ideal.ofBits FTy.f32 0x3E000000#32 := by
  pointwise [k0_pay2]
  refine congrArg (fun z => z * _) (Finset.sum_congr rfl fun d _ => ?_)
  rw [w_at m c t d f k hk g hg, xb_at m c t.val t.isLt r d]
  try rfl

/-- The entry of the whole array where an entry of a point's block lies. -/
theorem emb_at (t : Fin cfg0.N) (y : S256x512.Idx) : ((cfg0.win 2).blk t).view.emb y
    = ix2 (⟨(y 0).val, by have := (y 0).isLt; simp at this; omega⟩ : Fin 256)
        (⟨512 * t.val + (y 1).val, by have := N_lt t; have := (y 1).isLt; simp at this; omega⟩ : Fin 1024) := by
  have hN := N_lt t
  funext a
  fin_cases a <;> apply Fin.ext <;> blk_simp [idx t] <;> simp <;> omega

/-- The kernel's array after the run is the reference's queries. -/
theorem final2 (c : Dev nD) : (dats m 0 c).arrAt 2 (cfgs 0).N = REF (aX m c) (aW m c) := by
  refine (dats m 0 c).arrAt_eq_of_covers 2 _ (by decide +kernel) fun t hf y => ?_
  have hN := N_lt t
  have h0 := (y 0).isLt
  have h1 := (y 1).isLt
  simp at h0 h1
  have he := emb_at t y
  rw [he]
  blk_simp; rw [after0_2, out_f32 m c t, eq_ix2 y]
  refine (prod_at m c t (y 0) (y 1) ⟨512 * t.val + (y 1).val, by omega⟩ rfl
    ⟨(perm ⟨512 * t.val + (y 1).val, by omega⟩).val, by have := (perm ⟨512 * t.val + (y 1).val, by omega⟩).isLt; omega⟩ rfl).trans
      (REF_at _ _ _ _ _ rfl).symm

end Cert.QsProof

end
-- ==== Proof.QsClaim.lean ====
/- The claims of the sample's gates and queries. -/
module

public import proofs.«01_k».proof.Defs
public import proofs.«01_k».proof.Proof.GsValue
public import proofs.«01_k».proof.Proof.QsValue
public import proofs.«01_k».proof.Proof.Counters
public import Idealize.ShloMosaic.Lib.Claim

@[expose] public section

set_option maxRecDepth 16384

noncomputable section

open Idealize.ShloMosaic Idealize.ShloMosaic.TcCoe Idealize.SL.Sem

namespace Cert.Proof

/-- The reference's projection of the sample ends, faults nowhere and leaves its arguments as they were. -/
theorem quiescent_GsRef : Cert.quiescent_GsRefIdeal := by
  intro m g _
  refine run_counters (by decide) ?_
  hlo_run

/-- The kernel and its reference end with the same gates of the sample. -/
theorem algebraic_Gs : Cert.algebraic_GsIdeal_GsRefIdeal := by
  pair_intro
  · run_from Cert.GsIdeal.Gen.run_main m g
  · hlo_run
    exact (Cert.GsProof.final2 m c).symm

/-- The reference's projection of the sample ends, faults nowhere and leaves its arguments as they were. -/
theorem quiescent_QsRef : Cert.quiescent_QsRefIdeal := by
  intro m g _
  refine run_counters (by decide) ?_
  hlo_run

/-- The kernel and its reference end with the same queries of the sample. -/
theorem algebraic_Qs : Cert.algebraic_QsIdeal_QsRefIdeal := by
  pair_intro
  · run_from Cert.QsIdeal.Gen.run_main m g
  · hlo_run
    exact (Cert.QsProof.final2 m c).symm

end Cert.Proof

end
-- ==== Proof.FfnBody.lean ====
/- What one grid point of the feed-forward kernel leaves in its scratch buffers and result blocks. -/
module

public import proofs.«01_k».proof.Proof.Gen.FfnIdeal.Frame
public import proofs.«01_k».proof.FfnRefIdeal
public import proofs.«01_k».proof.Proof.Gen.FfnRefIdeal
public import Idealize.ShloMosaic.Lib.StableHlo.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.FfnIdeal Cert.FfnIdeal.Gen

namespace Cert.FfnProof

variable (m : (ℓ : Loc nD τ sig) → Buf (Elt Ideal) ℓ)
/-- Whether a row tile is the first of its batch row (the test the body makes on the first grid coordinate). -/
def first (i : grid0.Coords) : BitVec 1 :=
  let arg0 : BitVec 32 := BitVec.ofNat 32 (i 0).val
  let v2 : BitVec 32 := Scalar.remsi arg0 8#32
  Scalar.cmpi .eq (Scalar.select (Scalar.andi (Scalar.xori (Scalar.cmpi .slt v2 0#32) 0#1) (Scalar.cmpi .ne v2 0#32))
    (Scalar.addi v2 8#32) v2) 0#32

/-- The rows the body works on at a point: the eight rows before its tile and the tile itself. -/
def XB (c : Dev nD) (n : ℕ) (h : n < cfg0.N) : FVec Ideal S1032x1024 .bf16 := (outsAt0 m c n h).2.2.2.1

/-- The running down projection after a point. -/
def ACC (c : Dev nD) (n : ℕ) (h : n < cfg0.N) : FVec Ideal S1024x1024 .f32 := (outsAt0 m c n h).2.2.2.2

/-- One point's step of the running down projection. -/
def step (c : Dev nD) (t : Fin cfg0.N) (xb : FVec Ideal S1032x1024 .bf16) (acc : FVec Ideal S1024x1024 .f32) :
    FVec Ideal S1024x1024 .f32 :=
  k0_pay1 (k0_pay10 (k0_pay11 (first (grid0.coords t)) xb (iblk m c 4 t) (iblk m c 2 t)) (iblk m c 6 t)
      (k0_pay8 (iblk m c 8 t)) (k0_pay9 (iblk m c 6 t)))
    (k0_pay11 (first (grid0.coords t)) xb (iblk m c 5 t) (iblk m c 3 t))
    (k0_pay13 (first (grid0.coords t)) xb (iblk m c 5 t) (iblk m c 3 t) (iblk m c 7 t) (iblk m c 9 t))
    (k0_pay14 (iblk m c 7 t)) acc (iblk m c 10 t)

/-- The two stores that fill the working rows at a tile's first point. -/
def XB0 (c : Dev nD) (t : Fin cfg0.N) : FVec Ideal S1032x1024 .bf16 :=
  View.canon (Val := Elt Ideal) (s := S1032x1024) (e := .bf16)
    [⟨Rect.unit (s := S1032x1024) ![8, 0] ![1024, 1024] (by decide), k0_pay4 (iblk m c 0 t)⟩,
     ⟨Rect.unit (s := S1032x1024) ![0, 0] ![8, 1024] (by decide), k0_pay3 (iblk m c 1 t)⟩]

/-- The scratch rows as the body reads them, whole. -/
theorem xb_read (c : Dev nD) (t : Fin cfg0.N) {κ : Kind} {sp : Space} (v : View sig κ sp S1032x1024 .bf16) (p1 p2 p3) :
    v.readCov (Val := Elt Ideal)
      [⟨Rect.unit (s := S1032x1024) ![8, 0] ![1024, 1024] p1, k0_pay4 (iblk m c 0 t)⟩,
       ⟨Rect.unit (s := S1032x1024) ![0, 0] ![8, 1024] p2, k0_pay3 (iblk m c 1 t)⟩]
      (Rect.unit (s := S1032x1024) ![0, 0] ![1032, 1024] p3).toLoadRect = XB0 m c t := by
  rw [View.readCov_eq_canon']
  exact View.ld_unit_lit (S := S1032x1024) (off := ![0, 0]) p3 _ (by decide)

/-- At a row block's first feature tile the scratch holds the block's rows, freshly cast. -/
theorem xb_start (c : Dev nD) (t : Fin cfg0.N) (h0 : t.val % 11 = 0) : XB m c t.val t.isLt = XB0 m c t := by
  rw [XB, outsAt0_A m c t h0 (by omega)]
  frame_out

/-- And the accumulator holds the first tile's share. -/
theorem acc_start (c : Dev nD) (t : Fin cfg0.N) (h0 : t.val % 11 = 0) :
    ACC m c t.val t.isLt = step m c t (XB m c t.val t.isLt) k0_pay5 := by
  rw [xb_start m c t h0, ACC, outsAt0_A m c t h0 (by omega)]
  frame_out
  rw [xb_read]
  rfl

/-- At a later feature tile the scratch is as the tile before left it. -/
theorem xb_next (c : Dev nD) (t : Fin cfg0.N) (h0 : ¬t.val % 11 = 0) :
    XB m c t.val t.isLt = XB m c (t.val - 1) (Nat.lt_of_le_of_lt (Nat.sub_le _ _) t.isLt) := by
  by_cases h1 : t.val % 11 = 10
  · rw [XB, outsAt0_C m c t h0 h1]
    dsimp only [sout0_C_0]
    rfl
  · rw [XB, outsAt0_B m c t h0 h1]
    dsimp only [sout0_B_0]
    rfl

/-- And the accumulator has the tile's share added. -/
theorem acc_next (c : Dev nD) (t : Fin cfg0.N) (h0 : ¬t.val % 11 = 0) :
    ACC m c t.val t.isLt = step m c t (XB m c t.val t.isLt)
      (ACC m c (t.val - 1) (Nat.lt_of_le_of_lt (Nat.sub_le _ _) t.isLt)) := by
  rw [xb_next m c t h0]
  by_cases h1 : t.val % 11 = 10
  · rw [ACC, outsAt0_C m c t h0 h1]
    frame_out
    rw [read_unread_whole, read_unread_whole]
    rfl
  · rw [ACC, outsAt0_B m c t h0 h1]
    frame_out
    rw [read_unread_whole, read_unread_whole]
    rfl

/-- The stored tail rows of the value half. -/
theorem tailA (c : Dev nD) (t : Fin cfg0.N) : (outsAt0 m c t.val t.isLt).2.1
    = k0_pay7 (grid0.coords t) (XB m c t.val t.isLt) (iblk m c 4 t) (iblk m c 2 t) := by
  by_cases h0 : t.val % 11 = 0
  · rw [xb_start m c t h0, outsAt0_A m c t h0 (by omega)]
    frame_out
    rw [xb_read]
    rfl
  · rw [xb_next m c t h0]
    by_cases h1 : t.val % 11 = 10
    · rw [outsAt0_C m c t h0 h1]
      frame_out
      rw [read_unread_whole]
      rfl
    · rw [outsAt0_B m c t h0 h1]
      frame_out
      rw [read_unread_whole]
      rfl

/-- The stored tail rows of the gate half. -/
theorem tailB (c : Dev nD) (t : Fin cfg0.N) : (outsAt0 m c t.val t.isLt).2.2.1
    = k0_pay12 (first (grid0.coords t)) (XB m c t.val t.isLt) (iblk m c 5 t) (iblk m c 3 t) := by
  by_cases h0 : t.val % 11 = 0
  · rw [xb_start m c t h0, outsAt0_A m c t h0 (by omega)]
    frame_out
    rw [xb_read]
    rfl
  · rw [xb_next m c t h0]
    by_cases h1 : t.val % 11 = 10
    · rw [outsAt0_C m c t h0 h1]
      frame_out
      rw [read_unread_whole]
      rfl
    · rw [outsAt0_B m c t h0 h1]
      frame_out
      rw [read_unread_whole]
      rfl

/-- At a row block's last feature tile the result block is the layer norm of the residual and the whole sum. -/
theorem out_last (c : Dev nD) (t : Fin cfg0.N) (h1 : t.val % 11 = 10) : (outsAt0 m c t.val t.isLt).1
    = k0_pay2 (iblk m c 0 t) (ACC m c t.val t.isLt) (iblk m c 11 t) (iblk m c 12 t) := by
  have h0 : ¬t.val % 11 = 0 := by omega
  rw [acc_next m c t h0, xb_next m c t h0, outsAt0_C m c t h0 h1]
  frame_out
  rw [read_unread_whole, read_unread_whole]
  rfl

end Cert.FfnProof
-- ==== Proof.FfnPoint.lean ====
/- The blocks the feed-forward kernel reads at a point, and its convolution there. -/
module

public import proofs.«01_k».proof.Proof.FfnBody
public import proofs.«01_k».proof.Proof.FfnSpec
public import proofs.«01_k».proof.Proof.Gen.FfnRefIdeal
public import Idealize.ShloMosaic.Lib.StableHlo.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.FfnIdeal Cert.FfnIdeal.Gen

namespace Cert.FfnProof

variable (m : (ℓ : Loc nD τ sig) → Buf (Elt Ideal) ℓ)
/-- Which block of its array each window stages at a grid point. -/
theorem idx : ∀ t : Fin cfg0.N, win0_0.index t = ![t.val / 11, 0]
    ∧ win0_1.index t = ![128 * (t.val / 11) - 1, 0]
    ∧ win0_2.index t = ![t.val / 11 / 8, 0, t.val % 11]
    ∧ win0_3.index t = ![t.val / 11 / 8, 0, t.val % 11 + 11]
    ∧ win0_4.index t = ![0, t.val % 11]
    ∧ win0_5.index t = ![0, t.val % 11 + 11]
    ∧ win0_6.index t = ![0, t.val % 11]
    ∧ win0_7.index t = ![0, t.val % 11 + 11]
    ∧ win0_8.index t = ![0, t.val % 11]
    ∧ win0_9.index t = ![0, t.val % 11 + 11]
    ∧ win0_10.index t = ![t.val % 11, 0]
    ∧ win0_11.index t = ![0, 0]
    ∧ win0_12.index t = ![0, 0]
    ∧ win0_13.index t = ![t.val / 11, 0]
    ∧ win0_14.index t = ![t.val / 11, 0, t.val % 11]
    ∧ win0_15.index t = ![t.val / 11, 0, t.val % 11] :=
  (by decide +kernel : ∀ t : Fin grid0.N, _)

/-- The body's test: one at the first row tile of a batch row, zero elsewhere. -/
theorem first_eq : ∀ t : Fin cfg0.N, first (grid0.coords t) = if t.val / 11 % 8 = 0 then 1#1 else 0#1 :=
  (by decide +kernel : ∀ t : Fin grid0.N, _)

/-- The grid has 176 points. -/
theorem N_lt (t : Fin cfg0.N) : t.val < 176 := t.isLt

/-- A row of the rows filled at a tile's first point is the row of `x` eight before. -/
theorem xb0_row (c : Dev nD) (t : Fin cfg0.N) (q : Fin 1032) (d : Fin 1024) (r : Fin 16384)
    (h : r.val + 8 = 1024 * (t.val / 11) + q.val) :
    XB0 m c t (ix2 q d) = m ((c : Thread nD τ).loc main_arg0) (ix2 r d) := by
  have hN := N_lt t
  refine View.canon_eq_of_allAt _ _ _ ?_ (View.allAt_cons_unit _ _ _ _ _ ?_ (View.allAt_cons_unit _ _ _ _ _ ?_ (View.allAt_nil _ _)))
  · by_cases hq : q.val < 8
    · refine ⟨_, List.mem_cons_of_mem _ List.mem_cons_self, (LoadRect.mem_set _).mpr fun a => ?_⟩
      fin_cases a
      · exact ⟨q.val, hq, by simp [Rect.unit]⟩
      · exact ⟨d.val, d.isLt, by simp [Rect.unit]⟩
    · refine ⟨_, List.mem_cons_self, (LoadRect.mem_set _).mpr fun a => ?_⟩
      fin_cases a
      · exact ⟨q.val - 8, (by omega : q.val - 8 < 1024), by simp [Rect.unit]; omega⟩
      · exact ⟨d.val, d.isLt, by simp [Rect.unit]⟩
  · intro x hx
    have h0 : q.val = 8 + (x 0).val := hx 0
    have h1 : d.val = 0 + (x 1).val := hx 1
    pointwise [k0_pay4]
    blk_point [iblk, V, idx t] <;> omega
  · intro x hx
    have h0 : q.val = 0 + (x 0).val := hx 0
    have h1 : d.val = 0 + (x 1).val := hx 1
    pointwise [k0_pay3]
    blk_point [iblk, V, idx t] <;> omega

/-- A working row is the row of `x` eight before, at every point of the tile. -/
theorem xb_row (c : Dev nD) : ∀ (k : ℕ) (h : k < cfg0.N) (q : Fin 1032) (d : Fin 1024) (r : Fin 16384)
    (hr : r.val + 8 = 1024 * (k / 11) + q.val), XB m c k h (ix2 q d) = m ((c : Thread nD τ).loc main_arg0) (ix2 r d) := by
  intro k
  induction k with
  | zero =>
    intro h q d r hr
    rw [xb_start m c ⟨0, h⟩ rfl]
    exact xb0_row m c ⟨0, h⟩ q d r hr
  | succ k ih =>
    intro h q d r hr
    by_cases h0 : (k + 1) % 11 = 0
    · rw [xb_start m c ⟨k + 1, h⟩ h0]
      exact xb0_row m c ⟨k + 1, h⟩ q d r hr
    · rw [xb_next m c ⟨k + 1, h⟩ h0]
      exact ih _ q d r (by omega)

/-- The body's up-projected rows, read `s` rows early, are the shifted up projection of the batch row. -/
theorem up_rows (c : Dev nD) (t : Fin cfg0.N) (w : Vec Ideal S1024x256 .bf16) (hist : Vec Ideal S1x8x256 .f32)
    (k : Fin 256) (f : Fin 5632) (hw : ∀ d : Fin 1024, w (ix2 d k) = m ((c : Thread nD τ).loc main_arg1) (ix2 d f))
    (hh : ∀ e : Fin 8, hist (ix3 0 e k) = 0) (s : ℕ) (hs : s ≤ 8) (p : Fin 1024) (q : Fin 1032) (hq : q.val + s = 8 + p.val)
    (r : Fin 16384) (hr : r.val = 1024 * (t.val / 11) + p.val) :
    k0_pay11 (first (grid0.coords t)) (XB m c t.val t.isLt) w hist (ix2 q k)
      = up (m ((c : Thread nD τ).loc main_arg0)) (m ((c : Thread nD τ).loc main_arg1)) s r f := by
  have hN := N_lt t
  have row : ∀ q' : Fin 1032, q'.val = q.val → s ≤ r.val →
      ∑ d : Fin 1024, XB m c t.val t.isLt (ix2 q' d) * w (ix2 d k)
        = uv (m ((c : Thread nD τ).loc main_arg0)) (m ((c : Thread nD τ).loc main_arg1))
            ⟨r.val - s, Nat.lt_of_le_of_lt (Nat.sub_le _ _) r.isLt⟩ f := by
    intro q' hq' hsr
    unfold uv
    refine Finset.sum_congr rfl fun d _ => ?_
    rw [xb_row m c t.val t.isLt q' d ⟨r.val - s, Nat.lt_of_le_of_lt (Nat.sub_le _ _) r.isLt⟩ (by simp; omega), hw d]
  by_cases h8 : q.val < 8
  · by_cases h0 : t.val / 11 % 8 = 0
    · have e : up (m ((c : Thread nD τ).loc main_arg0)) (m ((c : Thread nD τ).loc main_arg1)) s r f = 0 :=
        if_neg (by omega)
      rw [e]
      pointwise [k0_pay11]
      rw [dif_pos h8, first_eq t, if_pos h0]
      exact hh _
    · have e : up (m ((c : Thread nD τ).loc main_arg0)) (m ((c : Thread nD τ).loc main_arg1)) s r f
          = uv (m ((c : Thread nD τ).loc main_arg0)) (m ((c : Thread nD τ).loc main_arg1))
            ⟨r.val - s, Nat.lt_of_le_of_lt (Nat.sub_le _ _) r.isLt⟩ f := if_pos (by omega)
      rw [e]
      pointwise [k0_pay11]
      rw [dif_pos h8, first_eq t, if_neg h0]
      exact row q rfl (by omega)
  · have e : up (m ((c : Thread nD τ).loc main_arg0)) (m ((c : Thread nD τ).loc main_arg1)) s r f
        = uv (m ((c : Thread nD τ).loc main_arg0)) (m ((c : Thread nD τ).loc main_arg1))
          ⟨r.val - s, Nat.lt_of_le_of_lt (Nat.sub_le _ _) r.isLt⟩ f := if_pos (by omega)
    rw [e]
    pointwise [k0_pay11]
    rw [dif_neg h8]
    exact row _ (by simp; omega) (by omega)

end Cert.FfnProof

end
-- ==== Proof.FfnRef.lean ====
/- The ConvFFN reference, stage by stage, and each stage at an entry. -/
module

public import proofs.«01_k».proof.Proof.FfnSpec
public import proofs.«01_k».proof.Proof.Gen.FfnRefIdeal
public import Idealize.ShloMosaic.Lib.StableHlo.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.FfnRefIdeal Cert.FfnRefIdeal.Gen

namespace Cert.FfnProof

/-- The up projection of the batched rows. -/
def refU (x : FVec Ideal S16384x1024 .f32) (wu : FVec Ideal S1024x5632 .f32) : FVec Ideal S2x8192x5632 .f32 :=
  Host.dotGeneral dot_S2x8192x1024_S1024x5632_S2x8192x5632_2_0_01_1_n_n none
    (shapeCast S2x8192x1024 x shapeCasts_S16384x1024_S2x8192x1024) wu

/-- The rows with two zero rows before each batch row. -/
def refP (u : FVec Ideal S2x8192x5632 .f32) : FVec Ideal S2x8194x5632 .f32 :=
  pad S2x8194x5632 ![0, 2, 0] ![0, 0, 0] ![0, 0, 0] u (sitofp .f32 (constantI S_ 32 0#32) : FVec Ideal S_ .f32)
    pads_S2x8192x5632_S2x8194x5632_000_200_000 h_S_

/-- One tap of the convolution, broadcast over the rows. -/
def refW (w : FVec Ideal S1x5632 .f32) : FVec Ideal S2x8192x5632 .f32 :=
  broadcastInDim S2x8192x5632 ![0, 1, 2] bcast_S1x1x5632_S2x8192x5632_0_1_2
    (broadcastInDim S1x1x5632 ![2] bcast_S5632_S1x1x5632_2 (shapeCast S5632 w shapeCasts_S1x5632_S5632))

/-- The convolution. -/
def refC (p : FVec Ideal S2x8194x5632 .f32) (cw : FVec Ideal S3x5632 .f32) (cb : FVec Ideal S5632 .f32) :
    FVec Ideal S2x8192x5632 .f32 :=
  addf (addf (addf (broadcastInDim S2x8192x5632 ![0, 1, 2] bcast_S1x1x5632_S2x8192x5632_0_1_2
        (broadcastInDim S1x1x5632 ![2] bcast_S5632_S1x1x5632_2 cb))
      (mulf (refW (extractStridedSlice S1x5632 ![0, 0] cw slices_S3x5632_S1x5632_0_0))
        (extractStridedSlice S2x8192x5632 ![0, 0, 0] p slices_S2x8194x5632_S2x8192x5632_0_0_0)))
      (mulf (refW (extractStridedSlice S1x5632 ![1, 0] cw slices_S3x5632_S1x5632_1_0))
        (extractStridedSlice S2x8192x5632 ![0, 1, 0] p slices_S2x8194x5632_S2x8192x5632_0_1_0)))
      (mulf (refW (extractStridedSlice S1x5632 ![2, 0] cw slices_S3x5632_S1x5632_2_0))
        (extractStridedSlice S2x8192x5632 ![0, 2, 0] p slices_S2x8194x5632_S2x8192x5632_0_2_0))

/-- A constant over the hidden rows. -/
def refK (b : BitVec 32) : FVec Ideal S2x8192x2816 .f32 :=
  broadcastInDim S2x8192x2816 ![] bcast_S_S2x8192x2816 (constant S_ .f32 b)

/-- The gelu of the gate half. -/
def refG (z : FVec Ideal S2x8192x2816 .f32) : FVec Ideal S2x8192x2816 .f32 :=
  mulf z (mulf (refK 0x3F000000#32) (addf (refK 0x3F800000#32)
    (Host.tanh (mulf (refK 0x3F4C422A#32) (addf z (mulf (refK 0x3D372713#32) (mulf (mulf z z) z)))))))

/-- The hidden rows. -/
def refH (c : FVec Ideal S2x8192x5632 .f32) : FVec Ideal S2x8192x2816 .f32 :=
  mulf (refG (extractStridedSlice S2x8192x2816 ![0, 0, 2816] c slices_S2x8192x5632_S2x8192x2816_0_0_2816))
    (extractStridedSlice S2x8192x2816 ![0, 0, 0] c slices_S2x8192x5632_S2x8192x2816_0_0_0)

/-- The residual sum. -/
def refR (x : FVec Ideal S16384x1024 .f32) (h : FVec Ideal S2x8192x2816 .f32) (wd : FVec Ideal S2816x1024 .f32) :
    FVec Ideal S2x8192x1024 .f32 :=
  addf (mulf (broadcastInDim S2x8192x1024 ![] bcast_S_S2x8192x1024 (constant S_ .f32 0x3FD744FD#32))
      (shapeCast S2x8192x1024 x shapeCasts_S16384x1024_S2x8192x1024))
    (Host.dotGeneral dot_S2x8192x2816_S2816x1024_S2x8192x1024_2_0_01_1_n_n none h wd)

/-- A row's mean. -/
def refM (r : FVec Ideal S2x8192x1024 .f32) : FVec Ideal S2x8192x1 .f32 :=
  Host.divf (broadcastInDim S2x8192x1 ![0, 1] bcast_S2x8192_S2x8192x1_0_1
      (Host.reduceAdd r (constant S_ .f32 0x00000000#32) reducesTo_S2x8192x1024_S2x8192_d2 h_S_))
    (broadcastInDim S2x8192x1 ![] bcast_S_S2x8192x1 (constant S_ .f32 0x44800000#32))

/-- A row's distance from its mean. -/
def refD (r : FVec Ideal S2x8192x1024 .f32) : FVec Ideal S2x8192x1024 .f32 :=
  subf r (broadcastInDim S2x8192x1024 ![0, 1, 2] bcast_S2x8192x1_S2x8192x1024_0_1_2 (refM r))

/-- The layer norm. -/
def refLN (r : FVec Ideal S2x8192x1024 .f32) (g b : FVec Ideal S1024 .f32) : FVec Ideal S2x8192x1024 .f32 :=
  addf (mulf (mulf (refD r) (broadcastInDim S2x8192x1024 ![0, 1, 2] bcast_S2x8192x1_S2x8192x1024_0_1_2
        (Host.rsqrt (addf (refM (mulf (refD r) (refD r)))
          (broadcastInDim S2x8192x1 ![] bcast_S_S2x8192x1 (constant S_ .f32 0x3727C5AC#32))))))
      (broadcastInDim S2x8192x1024 ![0, 1, 2] bcast_S1x1x1024_S2x8192x1024_0_1_2
        (broadcastInDim S1x1x1024 ![2] bcast_S1024_S1x1x1024_2 g)))
    (broadcastInDim S2x8192x1024 ![0, 1, 2] bcast_S1x1x1024_S2x8192x1024_0_1_2
      (broadcastInDim S1x1x1024 ![2] bcast_S1024_S1x1x1024_2 b))

/-- The reference's first result. -/
def REF (x : FVec Ideal S16384x1024 .f32) (wu : FVec Ideal S1024x5632 .f32) (cw : FVec Ideal S3x5632 .f32)
    (cb : FVec Ideal S5632 .f32) (wd : FVec Ideal S2816x1024 .f32) (g b : FVec Ideal S1024 .f32) : FVec Ideal S16384x1024 .f32 :=
  shapeCast S16384x1024 (refLN (refR x (refH (refC (refP (refU x wu)) cw cb)) wd) g b) shapeCasts_S2x8192x1024_S16384x1024

/-- The up-projected rows the reference keeps of every tile. -/
def refT (x : FVec Ideal S16384x1024 .f32) (wu : FVec Ideal S1024x5632 .f32) : FVec Ideal S16x8x5632 .f32 :=
  extractStridedSlice S16x8x5632 ![0, 1016, 0] (shapeCast S16x1024x5632 (refU x wu) shapeCasts_S2x8192x5632_S16x1024x5632)
    slices_S16x1024x5632_S16x8x5632_0_1016_0

/-- The reference's second result. -/
def REFA (x : FVec Ideal S16384x1024 .f32) (wu : FVec Ideal S1024x5632 .f32) : FVec Ideal S16x8x2816 .f32 :=
  extractStridedSlice S16x8x2816 ![0, 0, 0] (refT x wu) slices_S16x8x5632_S16x8x2816_0_0_0

/-- The reference's third result. -/
def REFB (x : FVec Ideal S16384x1024 .f32) (wu : FVec Ideal S1024x5632 .f32) : FVec Ideal S16x8x2816 .f32 :=
  extractStridedSlice S16x8x2816 ![0, 0, 2816] (refT x wu) slices_S16x8x5632_S16x8x2816_0_0_2816

/-- The up projection at an entry. -/
theorem refU_at (x wu) (i : Fin 2) (t : Fin 8192) (f : Fin 5632) (n : Fin 16384) (hn : n.val = 8192 * i.val + t.val) :
    refU x wu (ix3 i t f) = uv x wu n f := by
  pointwise [refU, uv]
  refine Finset.sum_congr rfl fun d _ => ?_
  exact congrArg (fun z => x (ix2 z d) * wu (ix2 d f)) (Fin.ext (by simp; omega))

/-- The padded rows at an entry: zero in the first two, else the row two before. -/
theorem refP_at (p) (i : Fin 2) (q : Fin 8194) (f : Fin 5632) :
    refP p (ix3 i q f) = if h : 2 ≤ q.val then p (ix3 i ⟨q.val - 2, by omega⟩ f) else 0 := by
  pointwise [refP]
  by_cases h : 2 ≤ q.val
  · rw [dif_pos ⟨h, by omega⟩, dif_pos h]
  · rw [dif_neg (fun h' => h h'.1), dif_neg h]
    simp [FloatOps.sitofp]

/-- The gated hidden entry. -/
theorem refH_at (c) (i : Fin 2) (t : Fin 8192) (f : Fin 2816)  :
    refH c (ix3 i t f) = gel (c (ix3 i t ⟨2816 + f.val, by omega⟩)) * c (ix3 i t ⟨f.val, by omega⟩) := by
  pointwise [refH, refG, refK, gel]
  congr 1
  rw [mul_left_comm, ← mul_assoc]

/-- The residual plus the down projection at an entry. -/
theorem refR_at (x h wd) (i : Fin 2) (t : Fin 8192) (d : Fin 1024) (n : Fin 16384) (hn : n.val = 8192 * i.val + t.val) :
    refR x h wd (ix3 i t d) = Ideal.ofBits FTy.f32 1071072509#32 * x (ix2 n d) + ∑ f : Fin 2816, h (ix3 i t f) * wd (ix2 f d) := by
  pointwise [refR]
  congr 1
  exact congrArg (fun z => Ideal.ofBits FTy.f32 1071072509#32 * x (ix2 z d)) (Fin.ext (by simp; omega))

/-- The layer norm at an entry. -/
theorem refLN_at (r g b) (i : Fin 2) (t : Fin 8192) (d : Fin 1024)  :
    refLN r g b (ix3 i t d) = lnv (fun d => r (ix3 i t d)) (g (ix1 d)) (b (ix1 d)) d := by
  pointwise [refLN, refD, refM, lnv]

/-- The padded rows, read `s` rows early, are the shifted up projection. -/
theorem refP_up (x wu) (i : Fin 2) (t : Fin 8192) (f : Fin 5632) (n : Fin 16384) (hn : n.val = 8192 * i.val + t.val)
    (s : ℕ) (q : Fin 8194) (hq : q.val + s = t.val + 2) (hs : s ≤ 2) :
    refP (refU x wu) (ix3 i q f) = up x wu s n f := by
  rw [refP_at]
  have hm : n.val % 8192 = t.val := by omega
  unfold up
  by_cases h : 2 ≤ q.val
  · rw [dif_pos h, if_pos (by omega)]
    exact refU_at x wu i _ f _ (by simp; omega)
  · rw [dif_neg h, if_neg (by omega)]

/-- The convolution at an entry, as bias and three taps. -/
theorem refC_at (x wu cw cb) (i : Fin 2) (t : Fin 8192) (f : Fin 5632) (n : Fin 16384) (hn : n.val = 8192 * i.val + t.val) :
    refC (refP (refU x wu)) cw cb (ix3 i t f) = cv x wu cw cb n f := by
  pointwise [refC, refW]
  rw [refP_up x wu i t f n hn 2 _ (by simp) (by omega), refP_up x wu i t f n hn 1 _ (by simp; omega) (by omega),
    refP_up x wu i t f n hn 0 _ (by simp; omega) (by omega)]
  rfl

/-- The reference's first result at an entry. -/
theorem REF_at (x wu cw cb wd g b) (n : Fin 16384) (d : Fin 1024) :
    REF x wu cw cb wd g b (ix2 n d) = lnv (res x wu cw cb wd n) (g (ix1 d)) (b (ix1 d)) d := by
  have h : REF x wu cw cb wd g b (ix2 n d) = refLN (refR x (refH (refC (refP (refU x wu)) cw cb)) wd) g b
      (ix3 ⟨n.val / 8192, by omega⟩ ⟨n.val % 8192, by omega⟩ d) := by
    pointwise [REF]
  rw [h, refLN_at]
  have hn : n.val = 8192 * (n.val / 8192) + n.val % 8192 := by omega
  congr 1
  funext e
  rw [refR_at _ _ _ _ _ _ n hn]
  unfold res
  congr 1
  refine Finset.sum_congr rfl fun f _ => ?_
  rw [refH_at, refC_at _ _ _ _ _ _ _ n hn, refC_at _ _ _ _ _ _ _ n hn]
  rfl

/-- The kept rows of the value half at an entry. -/
theorem REFA_at (x wu) (i : Fin 16) (e : Fin 8) (f : Fin 2816) (n : Fin 16384) (hn : n.val = 1024 * i.val + 1016 + e.val)
    (f' : Fin 5632) (hf : f'.val = f.val) : REFA x wu (ix3 i e f) = uv x wu n f' := by
  pointwise [REFA, refT]
  rw [refU_at _ _ _ _ _ n (by simp; omega)]
  rw [show (⟨f.val, by omega⟩ : Fin 5632) = f' from Fin.ext (by simp; omega)]

/-- The kept rows of the gate half at an entry. -/
theorem REFB_at (x wu) (i : Fin 16) (e : Fin 8) (f : Fin 2816) (n : Fin 16384) (hn : n.val = 1024 * i.val + 1016 + e.val)
    (f' : Fin 5632) (hf : f'.val = 2816 + f.val) : REFB x wu (ix3 i e f) = uv x wu n f' := by
  pointwise [REFB, refT]
  rw [refU_at _ _ _ _ _ n (by simp; omega)]
  rw [show (⟨2816 + f.val, by omega⟩ : Fin 5632) = f' from Fin.ext (by simp; omega)]

end Cert.FfnProof

end
-- ==== Proof.FfnValue.lean ====
/- One feature tile's share of the feed-forward kernel, as a sum over the tile of the reference's hidden entries. -/
module

public import proofs.«01_k».proof.Proof.FfnPoint
public import proofs.«01_k».proof.Proof.FfnRef
public import proofs.«01_k».proof.Proof.Gen.FfnRefIdeal
public import Idealize.ShloMosaic.Lib.StableHlo.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.FfnIdeal Cert.FfnIdeal.Gen

namespace Cert.FfnProof

variable (m : (ℓ : Loc nD τ sig) → Buf (Elt Ideal) ℓ)
/-- The arguments of the call on a device. -/
abbrev aX (c : Dev nD) := m ((c : Thread nD τ).loc main_arg0)
/-- The up projection's weight on a device. -/
abbrev aU (c : Dev nD) := m ((c : Thread nD τ).loc main_arg1)
/-- The convolution's taps. -/
abbrev aC (c : Dev nD) := m ((c : Thread nD τ).loc main_arg2)
/-- The convolution's bias. -/
abbrev aB (c : Dev nD) := m ((c : Thread nD τ).loc main_arg3)
/-- The down projection's weight. -/
abbrev aD (c : Dev nD) := m ((c : Thread nD τ).loc main_arg4)

/-- The up projection's weight, value half. -/
theorem wu_a (c : Dev nD) (t : Fin cfg0.N) (k : Fin 256) (f : Fin 5632) (hf : f.val = 256 * (t.val % 11) + k.val) (d : Fin 1024) :
    iblk m c 4 t (ix2 d k) = aU m c (ix2 d f) := by
  blk_point [iblk, V, idx t] <;> omega

/-- And gate half. -/
theorem wu_b (c : Dev nD) (t : Fin cfg0.N) (k : Fin 256) (f : Fin 5632) (hf : f.val = 2816 + (256 * (t.val % 11) + k.val)) (d : Fin 1024) :
    iblk m c 5 t (ix2 d k) = aU m c (ix2 d f) := by
  blk_point [iblk, V, idx t] <;> omega

/-- The zero word is zero. -/
theorem zero_bits : (Ideal.ofBits FTy.f32 0#32 : EReal) = 0 := by
  simp

/-- The rows before a sequence are zero, value half. -/
theorem hist_a (c : Dev nD) (t : Fin cfg0.N) (k : Fin 256) (e : Fin 8) : (show EReal from iblk m c 2 t (ix3 0 e k)) = 0 := by
  simp only [iblk]
  entry_read
  exact zero_bits

/-- And gate half. -/
theorem hist_b (c : Dev nD) (t : Fin cfg0.N) (k : Fin 256) (e : Fin 8) : (show EReal from iblk m c 3 t (ix3 0 e k)) = 0 := by
  simp only [iblk]
  entry_read
  exact zero_bits

/-- The taps, value half. -/
theorem cw_a (c : Dev nD) (t : Fin cfg0.N) (k : Fin 256) (f : Fin 5632) (hf : f.val = 256 * (t.val % 11) + k.val) (e : Fin 3) :
    iblk m c 6 t (ix2 e k) = aC m c (ix2 e f) := by
  blk_point [iblk, V, idx t] <;> omega

/-- And gate half. -/
theorem cw_b (c : Dev nD) (t : Fin cfg0.N) (k : Fin 256) (f : Fin 5632) (hf : f.val = 2816 + (256 * (t.val % 11) + k.val)) (e : Fin 3) :
    iblk m c 7 t (ix2 e k) = aC m c (ix2 e f) := by
  blk_point [iblk, V, idx t] <;> omega

/-- The bias, value half. -/
theorem cb_a (c : Dev nD) (t : Fin cfg0.N) (k : Fin 256) (f : Fin 5632) (hf : f.val = 256 * (t.val % 11) + k.val) :
    iblk m c 8 t (ix2 0 k) = aB m c (ix1 f) := by
  blk_point [iblk, V, idx t] <;> omega

/-- And gate half. -/
theorem cb_b (c : Dev nD) (t : Fin cfg0.N) (k : Fin 256) (f : Fin 5632) (hf : f.val = 2816 + (256 * (t.val % 11) + k.val)) :
    iblk m c 9 t (ix2 0 k) = aB m c (ix1 f) := by
  blk_point [iblk, V, idx t] <;> omega

/-- The down projection's weight. -/
theorem wd_at (c : Dev nD) (t : Fin cfg0.N) (k : Fin 256) (f : Fin 2816) (hf : f.val = 256 * (t.val % 11) + k.val) (d : Fin 1024) :
    iblk m c 10 t (ix2 k d) = aD m c (ix2 f d) := by
  blk_point [iblk, V, idx t] <;> omega

/-- The value half's convolution at a point. -/
theorem conv_a (c : Dev nD) (t : Fin cfg0.N) (k : Fin 256) (f : Fin 5632) (hf : f.val = 256 * (t.val % 11) + k.val)
    (p : Fin 1024) (r : Fin 16384) (hr : r.val = 1024 * (t.val / 11) + p.val) :
    k0_pay10 (k0_pay11 (first (grid0.coords t)) (XB m c t.val t.isLt) (iblk m c 4 t) (iblk m c 2 t)) (iblk m c 6 t)
      (k0_pay8 (iblk m c 8 t)) (k0_pay9 (iblk m c 6 t)) (ix2 p k) = cv (aX m c) (aU m c) (aC m c) (aB m c) r f := by
  have U := up_rows m c t (iblk m c 4 t) (iblk m c 2 t) k f (wu_a m c t k f hf) (hist_a m c t k)
  pointwise [k0_pay10, k0_pay8, k0_pay9]
  rw [U 2 (by omega) p _ (by simp; omega) r hr, U 1 (by omega) p _ (by simp; omega) r hr, U 0 (by omega) p _ (by simp) r hr,
    cw_a m c t k f hf, cw_a m c t k f hf, cw_a m c t k f hf, cb_a m c t k f hf]
  rfl

/-- The gate half's convolution at a point. -/
theorem conv_b (c : Dev nD) (t : Fin cfg0.N) (k : Fin 256) (f : Fin 5632) (hf : f.val = 2816 + (256 * (t.val % 11) + k.val))
    (p : Fin 1024) (r : Fin 16384) (hr : r.val = 1024 * (t.val / 11) + p.val) (q : Fin 1032) (hq : q.val = 8 + p.val) :
    k0_pay13 (first (grid0.coords t)) (XB m c t.val t.isLt) (iblk m c 5 t) (iblk m c 3 t) (iblk m c 7 t) (iblk m c 9 t) (ix2 p k)
      + k0_pay14 (iblk m c 7 t) (ix2 0 k)
        * k0_pay11 (first (grid0.coords t)) (XB m c t.val t.isLt) (iblk m c 5 t) (iblk m c 3 t) (ix2 q k)
      = cv (aX m c) (aU m c) (aC m c) (aB m c) r f := by
  have U := up_rows m c t (iblk m c 5 t) (iblk m c 3 t) k f (wu_b m c t k f hf) (hist_b m c t k)
  pointwise [k0_pay13, k0_pay14]
  rw [U 2 (by omega) p _ (by simp; omega) r hr, U 1 (by omega) p _ (by simp; omega) r hr, U 0 (by omega) p q (by omega) r hr,
    cw_b m c t k f hf, cw_b m c t k f hf, cw_b m c t k f hf, cb_b m c t k f hf]
  rfl

/-- The body's last product at an entry, from the arrays it is made of. -/
theorem last_prod (va : FVec Ideal S1024x256 .f32) (u : FVec Ideal S1032x256 .f32) (vb : FVec Ideal S1024x256 .f32)
    (w : FVec Ideal S1x256 .f32) (acc : FVec Ideal S1024x1024 .f32) (wd : FVec Ideal S256x1024 .bf16) (p d : Fin 1024) :
    k0_pay1 va u vb w acc wd (ix2 p d) = acc (ix2 p d)
      + ∑ k : Fin 256, gel (vb (ix2 p k) + w (ix2 0 k) * u (ix2 (⟨8 + p.val, by omega⟩ : Fin 1032) k)) * va (ix2 p k)
          * wd (ix2 k d) := by
  simp only [gel]
  pointwise [k0_pay1]

/-- One point's step adds its columns' share of the down projection. -/
theorem step_at (c : Dev nD) (t : Fin cfg0.N) (acc : FVec Ideal S1024x1024 .f32) (p d : Fin 1024) (r : Fin 16384)
    (hr : r.val = 1024 * (t.val / 11) + p.val) :
    step m c t (XB m c t.val t.isLt) acc (ix2 p d) = acc (ix2 p d)
      + ∑ k : Fin 256, hid (aX m c) (aU m c) (aC m c) (aB m c) r ⟨256 * (t.val % 11) + k.val, by omega⟩
          * aD m c (ix2 ⟨256 * (t.val % 11) + k.val, by omega⟩ d) := by
  unfold step
  rw [last_prod]
  refine congrArg (fun z => acc (ix2 p d) + z) (Finset.sum_congr rfl fun k _ => ?_)
  rw [conv_a m c t k ⟨256 * (t.val % 11) + k.val, by omega⟩ rfl p r hr,
    conv_b m c t k ⟨2816 + (256 * (t.val % 11) + k.val), by omega⟩ rfl p r hr _ rfl,
    wd_at m c t k ⟨256 * (t.val % 11) + k.val, by omega⟩ rfl]
  rfl

/-- A hidden column's term of the down projection, zero past the last column. -/
def term (c : Dev nD) (r : Fin 16384) (d : Fin 1024) (f : ℕ) : EReal :=
  if h : f < 2816 then hid (aX m c) (aU m c) (aC m c) (aB m c) r ⟨f, h⟩ * aD m c (ix2 ⟨f, h⟩ d) else 0

/-- The share of one tile at an entry is the sum over its features of hidden entry times weight. -/
theorem share_eq (c : Dev nD) (t : Fin cfg0.N) (r : Fin 16384) (d : Fin 1024) :
    ∑ k : Fin 256, hid (aX m c) (aU m c) (aC m c) (aB m c) r ⟨256 * (t.val % 11) + k.val, by omega⟩
          * aD m c (ix2 ⟨256 * (t.val % 11) + k.val, by omega⟩ d)
      = ∑ k ∈ Finset.range 256, term m c r d (256 * (t.val % 11) + k) := by
  rw [Finset.sum_range]
  refine Finset.sum_congr rfl fun k _ => ?_
  rw [term, dif_pos (by omega)]

/-- After a point the running down projection is the sum over the hidden columns met so far. -/
theorem acc_at (c : Dev nD) : ∀ (n : ℕ) (h : n < cfg0.N) (p d : Fin 1024) (r : Fin 16384)
    (hr : r.val = 1024 * (n / 11) + p.val),
    ACC m c n h (ix2 p d) = ∑ f ∈ Finset.range (256 * (n % 11 + 1)), term m c r d f := by
  intro n
  have start : ∀ (n : ℕ) (h : n < cfg0.N) (h0 : n % 11 = 0) (p d : Fin 1024) (r : Fin 16384)
      (hr : r.val = 1024 * (n / 11) + p.val),
      ACC m c n h (ix2 p d) = ∑ f ∈ Finset.range (256 * (n % 11 + 1)), term m c r d f := by
    intro n h h0 p d r hr
    rw [acc_start m c ⟨n, h⟩ h0, step_at m c ⟨n, h⟩ _ p d r hr, share_eq]
    have hz : (k0_pay5 (F := Ideal)) (ix2 p d) = (0 : EReal) := by
      pointwise [k0_pay5]
    show (k0_pay5 (F := Ideal)) (ix2 p d) + _ = _
    rw [hz, zero_add]
    simp only [h0]
    simp
  induction n with
  | zero => exact fun h => start 0 h rfl
  | succ n ih =>
    intro h p d r hr
    by_cases h0 : (n + 1) % 11 = 0
    · exact start (n + 1) h h0 p d r hr
    · rw [acc_next m c ⟨n + 1, h⟩ h0, step_at m c ⟨n + 1, h⟩ _ p d r hr, share_eq]
      show ACC m c n _ (ix2 p d) + _ = _
      rw [ih _ p d r (by omega)]
      have e : (n + 1) % 11 = n % 11 + 1 := by omega
      show _ + ∑ k ∈ Finset.range 256, term m c r d (256 * ((n + 1) % 11) + k) = _
      rw [e, show 256 * (n % 11 + 1 + 1) = 256 * (n % 11 + 1) + 256 by ring, Finset.sum_range_add]

/-- At a tile's last point it is the whole down projection. -/
theorem acc_last (c : Dev nD) (t : Fin cfg0.N) (h1 : t.val % 11 = 10) (p d : Fin 1024) (r : Fin 16384)
    (hr : r.val = 1024 * (t.val / 11) + p.val) :
    ACC m c t.val t.isLt (ix2 p d)
      = ∑ f : Fin 2816, hid (aX m c) (aU m c) (aC m c) (aB m c) r f * aD m c (ix2 f d) := by
  rw [acc_at m c t.val t.isLt p d r hr, h1, Finset.sum_range]
  refine Finset.sum_congr rfl fun f _ => ?_
  rw [term, dif_pos f.isLt]

/-- The staged activations. -/
theorem x_row (c : Dev nD) (t : Fin cfg0.N) (p d : Fin 1024) (r : Fin 16384) (hr : r.val = 1024 * (t.val / 11) + p.val) :
    iblk m c 0 t (ix2 p d) = aX m c (ix2 r d) := by
  blk_point [iblk, V, idx t] <;> omega

/-- The staged gain. -/
theorem g_at (c : Dev nD) (t : Fin cfg0.N) (d : Fin 1024) :
    iblk m c 11 t (ix2 0 d) = m ((c : Thread nD τ).loc main_arg5) (ix1 d) := by
  blk_point [iblk, V, idx t]

/-- The staged bias. -/
theorem b_at (c : Dev nD) (t : Fin cfg0.N) (d : Fin 1024) :
    iblk m c 12 t (ix2 0 d) = m ((c : Thread nD τ).loc main_arg6) (ix1 d) := by
  blk_point [iblk, V, idx t]

/-- The body's norm at an entry, from the arrays it is made of. -/
theorem norm_at (x acc : FVec Ideal S1024x1024 .f32) (g b : FVec Ideal S1x1024 .f32) (p d : Fin 1024) :
    k0_pay2 (F := Ideal) x acc g b (ix2 p d)
      = lnv (fun e => Ideal.ofBits FTy.f32 1071072509#32 * x (ix2 p e) + acc (ix2 p e)) (g (ix2 0 d)) (b (ix2 0 d)) d := by
  simp only [lnv]
  pointwise [k0_pay2]

/-- The normed rows a tile's last point stores. -/
theorem norm_row (c : Dev nD) (t : Fin cfg0.N) (h1 : t.val % 11 = 10) (p d : Fin 1024) (r : Fin 16384)
    (hr : r.val = 1024 * (t.val / 11) + p.val) :
    k0_pay2 (iblk m c 0 t) (ACC m c t.val t.isLt) (iblk m c 11 t) (iblk m c 12 t) (ix2 p d)
      = REF (aX m c) (aU m c) (aC m c) (aB m c) (aD m c) (m ((c : Thread nD τ).loc main_arg5))
          (m ((c : Thread nD τ).loc main_arg6)) (ix2 r d) := by
  rw [norm_at, REF_at, g_at, b_at]
  refine congrArg (fun v => lnv v _ _ d) (funext fun e => ?_)
  rw [acc_last m c t h1 p e r hr, x_row m c t p e r hr]
  rfl

/-- The rows the first tail stores are the up-projected rows. -/
theorem tail_a (c : Dev nD) (t : Fin cfg0.N) (e : Fin 8) (k : Fin 256) (n : Fin 16384) (f : Fin 5632)
    (hf : f.val = 256 * (t.val % 11) + k.val) (hn : n.val = 1024 * (t.val / 11) + 1016 + e.val) :
    k0_pay7 (grid0.coords t) (XB m c t.val t.isLt) (iblk m c 4 t) (iblk m c 2 t) (ix3 0 e k) = uv (aX m c) (aU m c) n f := by
  have U := up_rows m c t (iblk m c 4 t) (iblk m c 2 t) k f (wu_a m c t k f hf) (hist_a m c t k) 0 (by omega)
    ⟨1016 + e.val, by omega⟩ ⟨1024 + e.val, by omega⟩ (by simp; omega) n (by simp; omega)
  rw [up, if_pos (Nat.zero_le _)] at U
  refine Eq.trans ?_ U
  pointwise [k0_pay7]
  rfl

/-- A tail row of the gate half is the reference's up-projected row. -/
theorem tail_b (c : Dev nD) (t : Fin cfg0.N) (e : Fin 8) (k : Fin 256) (n : Fin 16384) (f : Fin 5632)
    (hf : f.val = 2816 + (256 * (t.val % 11) + k.val)) (hn : n.val = 1024 * (t.val / 11) + 1016 + e.val) :
    k0_pay12 (first (grid0.coords t)) (XB m c t.val t.isLt) (iblk m c 5 t) (iblk m c 3 t) (ix3 0 e k)
      = uv (aX m c) (aU m c) n f := by
  have U := up_rows m c t (iblk m c 5 t) (iblk m c 3 t) k f (wu_b m c t k f hf) (hist_b m c t k) 0 (by omega)
    ⟨1016 + e.val, by omega⟩ ⟨1024 + e.val, by omega⟩ (by simp; omega) n (by simp; omega)
  rw [up, if_pos (Nat.zero_le _)] at U
  refine Eq.trans ?_ U
  pointwise [k0_pay12]

end Cert.FfnProof
-- ==== Proof.FfnFinal.lean ====
/- The three result arrays of the feed-forward kernel, each whole. -/
module

public import proofs.«01_k».proof.Proof.FfnValue
public import proofs.«01_k».proof.Proof.Gen.FfnRefIdeal
public import Idealize.ShloMosaic.Lib.StableHlo.Run
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Cert.FfnIdeal Cert.FfnIdeal.Gen

namespace Cert.FfnProof

variable (m : (ℓ : Loc nD τ sig) → Buf (Elt Ideal) ℓ)

/-- Each result array after the run is the reference's: first the normed rows. -/
theorem final13 (c : Dev nD) : (dats m 0 c).arrAt 13 (cfgs 0).N
    = REF (aX m c) (aU m c) (aC m c) (aB m c) (aD m c) (m ((c : Thread nD τ).loc main_arg5))
        (m ((c : Thread nD τ).loc main_arg6)) := by
  refine (dats m 0 c).arrAt_eq_of_covers 13 _ (by decide +kernel) fun t hf y => ?_
  have h1 := (flush0_13 t).mp hf
  have hN := N_lt t
  have he : ((cfg0.win 13).blk t).view.emb y = ix2 (⟨1024 * (t.val / 11) + (y 0).val, by have := (y 0).isLt; simp at this; omega⟩ : Fin 16384) (y 1) := by
    funext a
    fin_cases a <;> apply Fin.ext <;> blk_simp [idx t] <;> simp <;> omega
  rw [he]
  blk_simp; rw [after0_13, out_last m c t h1, eq_ix2 y]
  exact norm_row m c t h1 _ _ _ rfl

/-- Then the last eight up-projected rows of each tile, value half. -/
theorem final14 (c : Dev nD) : (dats m 0 c).arrAt 14 (cfgs 0).N = REFA (aX m c) (aU m c) := by
  refine (dats m 0 c).arrAt_eq_of_covers 14 _ (by decide +kernel) fun t hf y => ?_
  have hN := N_lt t
  have he : ((cfg0.win 14).blk t).view.emb y
      = ix3 (⟨t.val / 11, by omega⟩ : Fin 16) (y 1) (⟨256 * (t.val % 11) + (y 2).val, by have := (y 2).isLt; simp at this; omega⟩ : Fin 2816) := by
    funext a
    fin_cases a <;> apply Fin.ext <;> blk_simp [idx t] <;> simp <;> omega
  rw [he]
  blk_simp; rw [after0_14, tailA m c t, eq_ix3 y]
  have h0 : y 0 = (0 : Fin 1) := @Subsingleton.elim (Fin 1) _ _ _
  rw [h0]
  have h2 := (y 2).isLt
  have h1 := (y 1).isLt
  simp at h1 h2
  rw [tail_a m c t (y 1) (y 2) ⟨1024 * (t.val / 11) + 1016 + (y 1).val, by omega⟩ ⟨256 * (t.val % 11) + (y 2).val, by omega⟩ rfl rfl]
  exact (REFA_at _ _ _ _ _ _ (by simp) _ (by simp)).symm

/-- And the gate half. -/
theorem final15 (c : Dev nD) : (dats m 0 c).arrAt 15 (cfgs 0).N = REFB (aX m c) (aU m c) := by
  refine (dats m 0 c).arrAt_eq_of_covers 15 _ (by decide +kernel) fun t hf y => ?_
  have hN := N_lt t
  have he : ((cfg0.win 15).blk t).view.emb y
      = ix3 (⟨t.val / 11, by omega⟩ : Fin 16) (y 1) (⟨256 * (t.val % 11) + (y 2).val, by have := (y 2).isLt; simp at this; omega⟩ : Fin 2816) := by
    funext a
    fin_cases a <;> apply Fin.ext <;> blk_simp [idx t] <;> simp <;> omega
  rw [he]
  blk_simp; rw [after0_15, tailB m c t, eq_ix3 y]
  have h0 : y 0 = (0 : Fin 1) := @Subsingleton.elim (Fin 1) _ _ _
  rw [h0]
  have h2 := (y 2).isLt
  have h1 := (y 1).isLt
  simp at h1 h2
  rw [tail_b m c t (y 1) (y 2) ⟨1024 * (t.val / 11) + 1016 + (y 1).val, by omega⟩ ⟨2816 + (256 * (t.val % 11) + (y 2).val), by omega⟩ rfl rfl]
  exact (REFB_at _ _ _ _ _ _ (by simp) _ (by simp)).symm

end Cert.FfnProof

end
-- ==== Proof.FfnClaim.lean ====
/- The value claim of the feed-forward call. -/
module

public import proofs.«01_k».proof.Defs
public import proofs.«01_k».proof.Proof.FfnFinal
public import Idealize.ShloMosaic.Lib.Claim

@[expose] public section

set_option maxRecDepth 16384

noncomputable section

open Idealize.ShloMosaic Idealize.ShloMosaic.TcCoe Idealize.SL.Sem

namespace Cert.Proof

set_option maxHeartbeats 4000000 in
/-- The feed-forward kernel and its reference end with the same three results. -/
theorem algebraic_Ffn : Cert.algebraic_FfnIdeal_FfnRefIdeal := by
  pair_intro
  · run_from Cert.FfnIdeal.Gen.run_main m g
  · hlo_run
    · exact (Cert.FfnProof.final13 m c).symm
    · exact (Cert.FfnProof.final14 m c).symm
    · exact (Cert.FfnProof.final15 m c).symm

end Cert.Proof

end
-- ==== Proof.FfnRefFrame.lean ====
/- The frame of the ConvFFN's reference. -/
module

public import proofs.«01_k».proof.Defs
public import proofs.«01_k».proof.Proof.Gen.FfnRefIdeal
public import Idealize.ShloMosaic.Lib.StableHlo.Run
public import proofs.«01_k».proof.Proof.Counters
public import Idealize.ShloMosaic.Lib.Claim

@[expose] public section

set_option maxRecDepth 16384

noncomputable section

open Idealize.ShloMosaic Idealize.ShloMosaic.TcCoe Idealize.SL.Sem

namespace Cert.Proof

set_option maxHeartbeats 4000000 in
/-- The ConvFFN's reference ends, faults nowhere and leaves its arguments as they were. -/
theorem quiescent_FfnRef : Cert.quiescent_FfnRefIdeal := by
  intro m g _
  refine run_counters (by decide) ?_
  hlo_run

end Cert.Proof

end
-- ==== Proof.PoolRefFrame.lean ====
/- The frame of the pooling mixer's reference. -/
module

public import proofs.«01_k».proof.Defs
public import proofs.«01_k».proof.Proof.Gen.PoolRefIdeal
public import Idealize.ShloMosaic.Lib.StableHlo.Run
public import proofs.«01_k».proof.Proof.Counters
public import Idealize.ShloMosaic.Lib.Claim

@[expose] public section

set_option maxRecDepth 16384

noncomputable section

open Idealize.ShloMosaic Idealize.ShloMosaic.TcCoe Idealize.SL.Sem

namespace Cert.Proof

set_option maxHeartbeats 4000000 in
/-- The pooling mixer's reference ends, faults nowhere and leaves its arguments as they were. -/
theorem quiescent_PoolRef : Cert.quiescent_PoolRefIdeal := by
  intro m g _
  refine run_counters (by decide) ?_
  hlo_run

end Cert.Proof

end
-- ==== Proof.PoolRef.lean ====
/- The pooling mixer: its entries as scalar formulas, and the reference, stage by stage, at an entry. -/
module

public import proofs.«01_k».proof.PoolRefIdeal
public import proofs.«01_k».proof.Proof.Gen.PoolRefIdeal
public import Idealize.ShloMosaic.Lib.StableHlo.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.PoolRefIdeal Cert.PoolRefIdeal.Gen

namespace Cert.PoolProof

/-- Row `s` of the activations with sixteen zero rows before them. -/
def padded (x : FVec Ideal S2x8192x1024 .f32) (b : Fin 2) (d : Fin 1024) (s : ℕ) : EReal :=
  if h : 16 ≤ s ∧ s < 8208 then x (ix3 b ⟨s - 16, by omega⟩ d) else 0

/-- The sum of the trailing window of `w` rows that ends at row `t`. -/
def window (x : FVec Ideal S2x8192x1024 .f32) (b : Fin 2) (t : Fin 8192) (d : Fin 1024) (w : ℕ) : EReal :=
  ∑ k ∈ Finset.range w, padded x b d (16 + t.val - k)

/-- The number of rows a window holds: `w`, or fewer at the start of the sequence. -/
def count (w : ℕ) (t : ℕ) : EReal :=
  FloatOps.sitofp (F := Ideal) FTy.f32 (IntOp.minsi (BitVec.ofNat 32 w) (IntOp.addi (BitVec.ofNat 32 t) 1#32))

/-- A trailing mean less the row itself. -/
def dev (x : FVec Ideal S2x8192x1024 .f32) (b : Fin 2) (t : Fin 8192) (w : ℕ) (d : Fin 1024) : EReal :=
  Ideal.div (window x b t d w) (count w t.val) - x (ix3 b t d)

/-- A channel group's linear map. -/
def mix (x : FVec Ideal S2x8192x1024 .f32) (w : FVec Ideal S4x256x256 .f32) (b : Fin 2) (t : Fin 8192) (g : Fin 4)
    (j : Fin 256) : EReal :=
  ∑ k : Fin 256, dev x b t (2 ^ (g.val + 1)) ⟨256 * g.val + k.val, by omega⟩ * w (ix3 g k j)

/-- The residual sum before the norm. -/
def res (x : FVec Ideal S2x8192x1024 .f32) (w : FVec Ideal S4x256x256 .f32) (bi sc : FVec Ideal S1024 .f32) (b : Fin 2)
    (t : Fin 8192) (j : Fin 1024) : EReal :=
  Ideal.ofBits FTy.f32 1071072509#32 * x (ix3 b t j)
    + sc (ix1 j) * (mix x w b t ⟨j.val / 256, by omega⟩ ⟨j.val % 256, by omega⟩ + bi (ix1 j))

/-- A row's layer norm with scale and shift. -/
def lnv (v : Fin 1024 → EReal) (g b : EReal) (d : Fin 1024) : EReal :=
  (v d - Ideal.div (∑ x, v x) (Ideal.ofBits FTy.f32 1149239296#32)) *
      Ideal.rsqrt (Ideal.div
          (∑ x, (v x - Ideal.div (∑ x, v x) (Ideal.ofBits FTy.f32 1149239296#32)) *
            (v x - Ideal.div (∑ x, v x) (Ideal.ofBits FTy.f32 1149239296#32)))
          (Ideal.ofBits FTy.f32 1149239296#32) + Ideal.ofBits FTy.f32 925353388#32) * g + b

/-- The cumulative sums along the sequence. -/
def refS (x : FVec Ideal S2x8192x1024 .f32) : FVec Ideal S2x8192x1024 .f32 :=
  Host.reduceWindowAdd ![1, 8192, 1] ![1, 1, 1] ![0, 8191, 0] ![0, 0, 0] x
    (broadcastInDim S_ ![] bcast_S_S_ (constant S_ .f32 0x00000000#32))
    reduceWindows_S2x8192x1024_S2x8192x1024_w1s1p0_0_w8192s1p8191_0_w1s1p0_0 h_S_

/-- Sixteen zero rows put before them. -/
def refP (c : FVec Ideal S2x8192x1024 .f32) : FVec Ideal S2x8208x1024 .f32 :=
  pad S2x8208x1024 ![0, 16, 0] ![0, 0, 0] ![0, 0, 0] c (sitofp .f32 (constantI S_ 32 0#32) : FVec Ideal S_ .f32)
    pads_S2x8192x1024_S2x8208x1024_000_1600_000 h_S_

/-- The window lengths at every row. -/
def refN (w : BitVec 32) : FVec Ideal S2x8192x256 .f32 :=
  broadcastInDim S2x8192x256 ![0, 1, 2] bcast_S1x8192x1_S2x8192x256_0_1_2
    (sitofp .f32 (minsi (broadcastInDim S1x8192x1 ![] bcast_S_S1x8192x1 (constantI S_ 32 w))
      (addi (broadcastInDim S1x8192x1 ![1] bcast_S8192_S1x8192x1_1 (iotaInDim S8192 32 0))
        (broadcastInDim S1x8192x1 ![] bcast_S_S1x8192x1 (constantI S_ 32 1#32)))) : FVec Ideal S1x8192x1 .f32)

/-- One group's trailing means less the rows, with a group axis. -/
def refD (w : BitVec 32) (a b x : FVec Ideal S2x8192x256 .f32) : FVec Ideal S2x8192x1x256 .f32 :=
  broadcastInDim S2x8192x1x256 ![0, 1, 3] bcast_S2x8192x256_S2x8192x1x256_0_1_3
    (subf (Host.divf (subf a b) (refN w)) x)

/-- The four groups. -/
def refG (x : FVec Ideal S2x8192x1024 .f32) (p : FVec Ideal S2x8208x1024 .f32) : FVec Ideal S2x8192x4x256 .f32 :=
  concatenate S2x8192x4x256 2
    [⟨S2x8192x1x256, refD 2#32 (extractStridedSlice S2x8192x256 ![0, 16, 0] p slices_S2x8208x1024_S2x8192x256_0_16_0)
        (extractStridedSlice S2x8192x256 ![0, 14, 0] p slices_S2x8208x1024_S2x8192x256_0_14_0)
        (extractStridedSlice S2x8192x256 ![0, 0, 0] x slices_S2x8192x1024_S2x8192x256_0_0_0)⟩,
     ⟨S2x8192x1x256, refD 4#32 (extractStridedSlice S2x8192x256 ![0, 16, 256] p slices_S2x8208x1024_S2x8192x256_0_16_256)
        (extractStridedSlice S2x8192x256 ![0, 12, 256] p slices_S2x8208x1024_S2x8192x256_0_12_256)
        (extractStridedSlice S2x8192x256 ![0, 0, 256] x slices_S2x8192x1024_S2x8192x256_0_0_256)⟩,
     ⟨S2x8192x1x256, refD 8#32 (extractStridedSlice S2x8192x256 ![0, 16, 512] p slices_S2x8208x1024_S2x8192x256_0_16_512)
        (extractStridedSlice S2x8192x256 ![0, 8, 512] p slices_S2x8208x1024_S2x8192x256_0_8_512)
        (extractStridedSlice S2x8192x256 ![0, 0, 512] x slices_S2x8192x1024_S2x8192x256_0_0_512)⟩,
     ⟨S2x8192x1x256, refD 16#32 (extractStridedSlice S2x8192x256 ![0, 16, 768] p slices_S2x8208x1024_S2x8192x256_0_16_768)
        (extractStridedSlice S2x8192x256 ![0, 0, 768] p slices_S2x8208x1024_S2x8192x256_0_0_768)
        (extractStridedSlice S2x8192x256 ![0, 0, 768] x slices_S2x8192x1024_S2x8192x256_0_0_768)⟩]
    concatenates_S2x8192x1x256_S2x8192x1x256_S2x8192x1x256_S2x8192x1x256_S2x8192x4x256_d2

/-- A vector over the channels, broadcast over the rows. -/
def refV (v : FVec Ideal S1024 .f32) : FVec Ideal S2x8192x1024 .f32 :=
  broadcastInDim S2x8192x1024 ![0, 1, 2] bcast_S1x1x1024_S2x8192x1024_0_1_2
    (broadcastInDim S1x1x1024 ![2] bcast_S1024_S1x1x1024_2 v)

/-- The residual sum. -/
def refR (x : FVec Ideal S2x8192x1024 .f32) (d : FVec Ideal S2x8192x4x256 .f32) (w : FVec Ideal S4x256x256 .f32)
    (bi sc : FVec Ideal S1024 .f32) : FVec Ideal S2x8192x1024 .f32 :=
  addf (mulf (broadcastInDim S2x8192x1024 ![] bcast_S_S2x8192x1024 (constant S_ .f32 0x3FD744FD#32)) x)
    (mulf (refV sc) (addf (shapeCast S2x8192x1024
      (transpose S2x8192x4x256 [2, 3, 0, 1]
        (Host.dotGeneral dot_S4x256x256_S2x8192x4x256_S4x256x2x8192_1_3_2_01_0_2 none w d)
        transposes_S4x256x2x8192_S2x8192x4x256_2_3_0_1) shapeCasts_S2x8192x4x256_S2x8192x1024) (refV bi)))

/-- A row's mean. -/
def refM (r : FVec Ideal S2x8192x1024 .f32) : FVec Ideal S2x8192x1 .f32 :=
  Host.divf (broadcastInDim S2x8192x1 ![0, 1] bcast_S2x8192_S2x8192x1_0_1
      (Host.reduceAdd r (constant S_ .f32 0x00000000#32) reducesTo_S2x8192x1024_S2x8192_d2 h_S_))
    (broadcastInDim S2x8192x1 ![] bcast_S_S2x8192x1 (constant S_ .f32 0x44800000#32))

/-- A row's distance from its mean. -/
def refC (r : FVec Ideal S2x8192x1024 .f32) : FVec Ideal S2x8192x1024 .f32 :=
  subf r (broadcastInDim S2x8192x1024 ![0, 1, 2] bcast_S2x8192x1_S2x8192x1024_0_1_2 (refM r))

/-- The layer norm. -/
def refLN (r : FVec Ideal S2x8192x1024 .f32) (g b : FVec Ideal S1024 .f32) : FVec Ideal S2x8192x1024 .f32 :=
  addf (mulf (mulf (refC r) (broadcastInDim S2x8192x1024 ![0, 1, 2] bcast_S2x8192x1_S2x8192x1024_0_1_2
        (Host.rsqrt (addf (refM (mulf (refC r) (refC r)))
          (broadcastInDim S2x8192x1 ![] bcast_S_S2x8192x1 (constant S_ .f32 0x3727C5AC#32)))))) (refV g)) (refV b)

/-- The reference's result. -/
def REF (x : FVec Ideal S2x8192x1024 .f32) (w : FVec Ideal S4x256x256 .f32) (bi sc g b : FVec Ideal S1024 .f32) :
    FVec Ideal S2x8192x1024 .f32 :=
  refLN (refR x (refG x (refP (refS x))) w bi sc) g b

/-- The cumulative sum at a row: the window of all rows up to it. -/
theorem refS_at (x) (b : Fin 2) (t : Fin 8192) (d : Fin 1024) :
    refS x (ix3 b t d) = ∑ s : Fin 8192, if h : 8191 ≤ t.val + s.val then x (ix3 b ⟨t.val + s.val - 8191, by omega⟩ d) else 0 := by
  have fold : ∀ {n : ℕ} (f : Fin n → EReal) (v : EReal), (List.finRange n).foldl (fun r i => r + f i) v = v + ∑ i, f i := by
    intro n f v
    rw [Fin.sum_univ_def]
    generalize List.finRange n = l
    induction l generalizing v with
    | nil => simp
    | cons a l ih => simp [ih, add_assoc]
  unfold refS Host.reduceWindowAdd
  rw [Ideal.hostReduceWindowAdd_def]
  unfold Ideal.hostReduceWindowAdd Host.reduceWindow
  dsimp only
  rw [fold]
  have z : (broadcastInDim S_ ![] bcast_S_S_ (constant S_ .f32 0x00000000#32) : FVec Ideal S_ .f32) (Shape.Idx.first h_S_) = (0 : EReal) := by
    show Ideal.ofBits FTy.f32 0#32 = (0 : EReal)
    simp
  rw [z, zero_add]
  refine Eq.trans (Eq.symm (Equiv.sum_comp (Shape.rowMajor ⟨3, ![1, 8192, 1]⟩) _)) ?_
  simp only [Equiv.symm_apply_apply]
  rw [sum_idx3]
  simp only [Finset.univ_unique, Finset.sum_singleton]
  refine Finset.sum_congr rfl fun s _ => ?_
  by_cases h : 8191 ≤ t.val + s.val
  · rw [dif_pos h, dif_pos]
    · refine congrArg x (funext fun a => ?_)
      fin_cases a <;> apply Fin.ext <;> simp
    · intro a
      fin_cases a <;> simp <;> omega
  · rw [dif_neg h, dif_neg]
    intro hin
    have := (hin 1).1
    simp at this
    omega

/-- The padded sums: zero on the first sixteen rows, the sums after. -/
theorem refP_at (c) (b : Fin 2) (q : Fin 8208) (d : Fin 1024) :
    refP c (ix3 b q d) = if h : 16 ≤ q.val then c (ix3 b ⟨q.val - 16, by omega⟩ d) else 0 := by
  pointwise [refP]
  by_cases h : 16 ≤ q.val
  · rw [dif_pos ⟨h, by omega⟩, dif_pos h]
  · rw [dif_neg (fun h' => h h'.1), dif_neg h]
    simp [FloatOps.sitofp]

/-- One group's entries. -/
theorem refD_at (w a b x) (i : Fin 2) (t : Fin 8192) (k : Fin 256) :
    refD w a b x (ix4 i t 0 k) = Ideal.div (a (ix3 i t k) - b (ix3 i t k))
      (FloatOps.sitofp (F := Ideal) FTy.f32 (IntOp.minsi w (IntOp.addi (BitVec.ofNat 32 t.val) 1#32))) - x (ix3 i t k) := by
  pointwise [refD, refN]

/-- The stacked groups at an entry. -/
theorem refG_at (x p) (i : Fin 2) (t : Fin 8192) (g : Fin 4) (k : Fin 256) :
    refG x p (ix4 i t g k) = Ideal.div (p (ix3 i ⟨16 + t.val, by omega⟩ ⟨256 * g.val + k.val, by omega⟩)
        - p (ix3 i ⟨16 - 2 ^ (g.val + 1) + t.val, by have := t.isLt; have : 16 - 2 ^ (g.val + 1) ≤ 16 := Nat.sub_le _ _; omega⟩ ⟨256 * g.val + k.val, by omega⟩))
      (count (2 ^ (g.val + 1)) t.val) - x (ix3 i t ⟨256 * g.val + k.val, by omega⟩) := by
  fin_cases g <;> pointwise [refG, refD, refN, count] <;> first
    | rfl
    | exact congrArg (fun z => Ideal.div (p (ix3 i ⟨16 + t.val, _⟩ _) - p (ix3 i z _)) _ - _) (Fin.ext (by simp))

/-- The residual sum at an entry. -/
theorem refR_at (x d w bi sc) (i : Fin 2) (t : Fin 8192) (j : Fin 1024) :
    refR x d w bi sc (ix3 i t j) = Ideal.ofBits FTy.f32 1071072509#32 * x (ix3 i t j)
      + sc (ix1 j) * ((∑ k : Fin 256, d (ix4 i t (⟨j.val / 256, by omega⟩ : Fin 4) k) * w (ix3 (⟨j.val / 256, by omega⟩ : Fin 4) k (⟨j.val % 256, by omega⟩ : Fin 256))) + bi (ix1 j)) := by
  pointwise [refR, refV]
  exact congrArg (fun z => _ + sc (ix1 j) * (z + bi (ix1 j))) (Finset.sum_congr rfl fun k _ => mul_comm _ _)

/-- The layer norm at an entry. -/
theorem refLN_at (r g b) (i : Fin 2) (t : Fin 8192) (d : Fin 1024)  :
    refLN r g b (ix3 i t d) = lnv (fun d => r (ix3 i t d)) (g (ix1 d)) (b (ix1 d)) d := by
  pointwise [refLN, refC, refM, refV, lnv]

/-- A finite sum of reals, read in the extended reals. -/
theorem coe_sum {α : Type} (s : Finset α) (f : α → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Prefix sums differ by the window between them. -/
theorem prefix_diff (r : ℕ → ℝ) (n w : ℕ) (h : w ≤ n) :
    (∑ i ∈ Finset.range (n - 15), r i) - (∑ i ∈ Finset.range (n - w - 15), r i)
      = ∑ k ∈ Finset.range w, if 16 ≤ n - k then r (n - k - 16) else 0 := by
  induction w with
  | zero => simp
  | succ w ih =>
    rw [Finset.sum_range_succ, ← ih (by omega)]
    by_cases h16 : 16 ≤ n - w
    · rw [if_pos h16, show n - w - 15 = (n - w - 16) + 1 by omega, Finset.sum_range_succ,
        show n - (w + 1) - 15 = n - w - 16 by omega]
      ring
    · rw [if_neg h16, show n - w - 15 = 0 by omega, show n - (w + 1) - 15 = 0 by omega]
      ring

/-- A sum over the rows up to `t`, read through a window of all rows. -/
theorem window_prefix (r : ℕ → ℝ) (t : ℕ) (ht : t < 8192) :
    (∑ s ∈ Finset.range 8192, if 8191 ≤ t + s then r (t + s - 8191) else 0) = ∑ i ∈ Finset.range (t + 1), r i := by
  have e : (8192 : ℕ) = (8191 - t) + (t + 1) := by omega
  rw [e, Finset.sum_range_add, Finset.sum_eq_zero, zero_add]
  · refine Finset.sum_congr rfl fun i _ => ?_
    rw [if_pos (by omega), show t + (8191 - t + i) - 8191 = i by omega]
  · intro i hi
    rw [Finset.mem_range] at hi
    exact if_neg (by omega)

/-- A difference of padded cumulative sums of finite rows is the sum of the window between them. -/
theorem window_of_sums (x) (hx : ∀ i : S2x8192x1024.Idx, ∃ r : ℝ, x i = (r : EReal)) (b : Fin 2) (t : Fin 8192) (d : Fin 1024)
    (w : ℕ) (hw : w ≤ 16) (q : Fin 8208) (hq : q.val = 16 - w + t.val) :
    refP (refS x) (ix3 b ⟨16 + t.val, by omega⟩ d) - refP (refS x) (ix3 b q d) = window x b t d w := by
  choose r hr using hx
  let ρ : ℕ → ℝ := fun n => if h : n < 8192 then r (ix3 b ⟨n, h⟩ d) else 0
  have hρ : ∀ (n : ℕ) (h : n < 8192), x (ix3 b ⟨n, h⟩ d) = (ρ n : EReal) := fun n h => by
    rw [hr, show ρ n = r (ix3 b ⟨n, h⟩ d) from dif_pos h]
  have hS : ∀ s : Fin 8192, refS x (ix3 b s d) = ((∑ i ∈ Finset.range (s.val + 1), ρ i : ℝ) : EReal) := by
    intro s
    rw [refS_at, ← window_prefix ρ s.val s.isLt, Finset.sum_range, coe_sum]
    refine Finset.sum_congr rfl fun i _ => ?_
    by_cases h : 8191 ≤ s.val + i.val
    · rw [dif_pos h, if_pos h, hρ]
    · rw [dif_neg h, if_neg h, EReal.coe_zero]
  have hP : ∀ s : Fin 8208, refP (refS x) (ix3 b s d) = ((∑ i ∈ Finset.range (s.val - 15), ρ i : ℝ) : EReal) := by
    intro s
    rw [refP_at]
    by_cases h : 16 ≤ s.val
    · rw [dif_pos h, hS, show s.val - 16 + 1 = s.val - 15 by omega]
    · rw [dif_neg h, show s.val - 15 = 0 by omega, Finset.sum_range_zero, EReal.coe_zero]
  rw [hP, hP, ← EReal.coe_sub, show q.val - 15 = 16 + t.val - w - 15 by omega, prefix_diff ρ (16 + t.val) w (by omega), coe_sum]
  refine Finset.sum_congr rfl fun k _ => ?_
  unfold padded
  by_cases h : 16 ≤ 16 + t.val - k
  · rw [if_pos h, dif_pos ⟨h, by omega⟩, hρ]
  · rw [if_neg h, dif_neg (fun h' => h h'.1), EReal.coe_zero]

/-- The reference at an entry. -/
theorem REF_at (x w bi sc g b) (hx : ∀ i : S2x8192x1024.Idx, ∃ r : ℝ, x i = (r : EReal)) (i : Fin 2) (t : Fin 8192) (j : Fin 1024) :
    REF x w bi sc g b (ix3 i t j) = lnv (res x w bi sc i t) (g (ix1 j)) (b (ix1 j)) j := by
  unfold REF
  rw [refLN_at]
  refine congrArg (fun v => lnv v _ _ j) (funext fun j => ?_)
  rw [refR_at]
  unfold res mix dev
  refine congrArg (fun z => _ + sc (ix1 j) * (z + _)) (Finset.sum_congr rfl fun k _ => congrArg (· * _) ?_)
  rw [refG_at, window_of_sums x hx i t _ (2 ^ (j.val / 256 + 1)) ?_ _ rfl]
  have : j.val / 256 + 1 ≤ 4 := by omega
  exact Nat.pow_le_pow_right (by norm_num) this

end Cert.PoolProof

end
-- ==== Proof.PoolValue.lean ====
/- One tile of the pooling kernel: its stored rows as scalar formulas of the arguments. -/
module

public import proofs.«01_k».proof.Proof.Gen.PoolIdeal.Value
public import proofs.«01_k».proof.PoolRefIdeal
public import proofs.«01_k».proof.Proof.PoolRef
public import proofs.«01_k».proof.Proof.Gen.PoolRefIdeal
public import Idealize.ShloMosaic.Lib.StableHlo.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.PoolIdeal Cert.PoolIdeal.Gen

namespace Cert.PoolProof

/-- A sum of `2 ^ n` consecutive entries that end at the one before `q + 2 ^ n`, by doubling. -/
def tr (f : ℕ → EReal) : ℕ → ℕ → EReal
  | 0, q => f q
  | n + 1, q => tr f n (2 ^ n + q) + tr f n q

/-- The doubled sum is the sum of the window. -/
theorem tr_eq (f : ℕ → EReal) (n q : ℕ) : tr f n q = ∑ k ∈ Finset.range (2 ^ n), f (q + 2 ^ n - 1 - k) := by
  induction n generalizing q with
  | zero => simp [tr]
  | succ n ih =>
    rw [tr, ih, ih, show 2 ^ (n + 1) = 2 ^ n + 2 ^ n by ring, Finset.sum_range_add]
    refine congrArg₂ (· + ·) (Finset.sum_congr rfl fun k _ => congrArg f ?_) (Finset.sum_congr rfl fun k _ => congrArg f ?_) <;> omega

/-- The kernel's doubled sum of padded rows is the reference's window. -/
theorem tr_window (x : FVec Ideal S2x8192x1024 .f32) (b : Fin 2) (T : Fin 8192) (d : Fin 1024) (a p n q : ℕ)
    (hT : T.val = a + p) (hq : q + 2 ^ n = 17 + p) :
    tr (fun s => padded x b d (a + s)) n q = window x b T d (2 ^ n) := by
  rw [tr_eq]
  refine Finset.sum_congr rfl fun k hk => congrArg (padded x b d) ?_
  rw [Finset.mem_range] at hk
  omega

section Groups

variable (x : FVec Ideal S2x8192x1024 .f32) (W : FVec Ideal S4x256x256 .f32) (b : Fin 2) (T : Fin 8192) (a : ℕ)
  (p : Fin 512) (j : Fin 256) (hT : T.val = a + p.val)
  (w : Vec Ideal S1x256x256 .bf16) (bi sc : Vec Ideal S1x256 .f32)

include hT

/-- The first group's columns, windows of two. -/
theorem group0 (i v0 v2 v5) (h8 : ∀ q d, k0_pay3 (F := Ideal) i v0 v2 v5 (ix2 q d) = padded x b d (a + q.val))
    (h1 : ∀ d, k0_pay2 (F := Ideal) v0 (ix2 p d) = x (ix3 b T d))
    (h13 : ∀ k, k0_pay4 i (ix2 p k) = BitVec.ofNat 32 T.val) (hw : ∀ k, w (ix3 0 k j) = W (ix3 0 k j)) :
    k0_pay6 (F := Ideal) (k0_pay5 i v0 v2 v5 w bi) sc (ix2 p j) = sc (ix2 0 j) * (mix x W b T 0 j + bi (ix2 0 j)) := by
  pointwise [k0_pay6, k0_pay5]
  refine congrArg (fun z => sc (ix2 0 j) * (z + bi (ix2 0 j))) (Finset.sum_congr rfl fun k _ => ?_)
  have hk : (⟨256 * (0 : Fin 4).val + k.val, by omega⟩ : Fin 1024) = ⟨k.val, by omega⟩ := Fin.ext (by simp)
  rw [h8, h8, h1, h13, hw, hk]
  unfold dev
  rw [show 2 ^ ((0 : Fin 4).val + 1) = 2 ^ 1 from rfl, ← tr_window x b T _ a p 1 (15 + p) hT (by omega)]
  rfl

/-- The second group's columns, windows of four. -/
theorem group1 (v1 v8 v13) (h8 : ∀ q d, v8 (ix2 q d) = padded x b d (a + q.val)) (h1 : ∀ d, v1 (ix2 p d) = x (ix3 b T d))
    (h13 : ∀ k, v13 (ix2 p k) = BitVec.ofNat 32 T.val) (hw : ∀ k, w (ix3 0 k j) = W (ix3 1 k j)) :
    k0_pay7 (F := Ideal) v1 v8 v13 w bi sc (ix2 p j) = sc (ix2 0 j) * (mix x W b T 1 j + bi (ix2 0 j)) := by
  pointwise [k0_pay7]
  refine congrArg (fun z => sc (ix2 0 j) * (z + bi (ix2 0 j))) (Finset.sum_congr rfl fun k _ => ?_)
  simp only [h8, h1, h13, hw]
  unfold dev
  rw [show 2 ^ ((1 : Fin 4).val + 1) = 2 ^ 2 from rfl, ← tr_window x b T _ a p 2 (13 + p) hT (by omega)]
  rfl

/-- The third group's columns, windows of eight. -/
theorem group2 (v1 v8 v13) (h8 : ∀ q d, v8 (ix2 q d) = padded x b d (a + q.val)) (h1 : ∀ d, v1 (ix2 p d) = x (ix3 b T d))
    (h13 : ∀ k, v13 (ix2 p k) = BitVec.ofNat 32 T.val) (hw : ∀ k, w (ix3 0 k j) = W (ix3 2 k j)) :
    k0_pay9 (F := Ideal) v1 (k0_pay8 v8 v13) w bi sc (ix2 p j) = sc (ix2 0 j) * (mix x W b T 2 j + bi (ix2 0 j)) := by
  pointwise [k0_pay9, k0_pay8]
  refine congrArg (fun z => sc (ix2 0 j) * (z + bi (ix2 0 j))) (Finset.sum_congr rfl fun k _ => ?_)
  simp only [h8, h1, h13, hw]
  unfold dev
  rw [show 2 ^ ((2 : Fin 4).val + 1) = 2 ^ 3 from rfl, ← tr_window x b T _ a p 3 (9 + p) hT (by omega)]
  rfl

set_option maxHeartbeats 1000000 in
/-- The last group's columns, windows of sixteen, before the scale. -/
theorem group3 (v1 v8 v13) (h8 : ∀ q d, v8 (ix2 q d) = padded x b d (a + q.val)) (h1 : ∀ d, v1 (ix2 p d) = x (ix3 b T d))
    (h13 : ∀ k, v13 (ix2 p k) = BitVec.ofNat 32 T.val) (hw : ∀ k, w (ix3 0 k j) = W (ix3 3 k j)) :
    k0_pay10 (F := Ideal) v1 v8 v13 w bi (ix2 p j) = mix x W b T 3 j + bi (ix2 0 j) := by
  pointwise [k0_pay10]
  refine congrArg (fun z => z + bi (ix2 0 j)) (Finset.sum_congr rfl fun k _ => ?_)
  simp only [h8, h1, h13, hw]
  unfold dev
  rw [show 2 ^ ((3 : Fin 4).val + 1) = 2 ^ 4 from rfl, ← tr_window x b T _ a p 4 (1 + p) hT (by omega)]
  rfl

end Groups

/-- The stored row: the norm of the residual sum of the four groups' columns. -/
theorem stored (v1 c0 c1 c2 c3 s3 g b) (r : Fin 1024 → EReal) (p : Fin 512) (j : Fin 1024)
    (h0 : ∀ k : Fin 256, Ideal.ofBits FTy.f32 1071072509#32 * v1 (ix2 p ⟨k.val, by omega⟩) + c0 (ix2 p k) = r ⟨k.val, by omega⟩)
    (h1 : ∀ k : Fin 256, Ideal.ofBits FTy.f32 1071072509#32 * v1 (ix2 p ⟨256 + k.val, by omega⟩) + c1 (ix2 p k) = r ⟨256 + k.val, by omega⟩)
    (h2 : ∀ k : Fin 256, Ideal.ofBits FTy.f32 1071072509#32 * v1 (ix2 p ⟨512 + k.val, by omega⟩) + c2 (ix2 p k) = r ⟨512 + k.val, by omega⟩)
    (h3 : ∀ k : Fin 256, Ideal.ofBits FTy.f32 1071072509#32 * v1 (ix2 p ⟨768 + k.val, by omega⟩) + s3 (ix2 0 k) * c3 (ix2 p k) = r ⟨768 + k.val, by omega⟩) :
    k0_pay1 (F := Ideal) v1 c0 c1 c2 c3 s3 g b (ix3 0 p j) = lnv r (g (ix2 0 j)) (b (ix2 0 j)) j := by
  have hr : (fun x : Fin 1024 => Ideal.ofBits FTy.f32 1071072509#32 * v1 (ix2 p x) +
      if h : x.val < 256 then c0 (ix2 p ⟨x.val, h⟩)
      else if h : x.val - 256 < 256 then c1 (ix2 p ⟨x.val - 256, h⟩)
      else if h : x.val - 256 - 256 < 256 then c2 (ix2 p ⟨x.val - 256 - 256, h⟩)
      else s3 (ix2 0 ⟨x.val - 256 - 256 - 256, by omega⟩) * c3 (ix2 p ⟨x.val - 256 - 256 - 256, by omega⟩)) = r := by
    funext x
    by_cases a0 : x.val < 256
    · rw [dif_pos a0]; exact h0 ⟨x.val, a0⟩
    by_cases a1 : x.val - 256 < 256
    · have e : (⟨256 + (x.val - 256), by omega⟩ : Fin 1024) = x := Fin.ext (by simp; omega)
      have := h1 ⟨x.val - 256, a1⟩
      rw [dif_neg a0, dif_pos a1]; simpa only [e] using this
    by_cases a2 : x.val - 256 - 256 < 256
    · have e : (⟨512 + (x.val - 256 - 256), by omega⟩ : Fin 1024) = x := Fin.ext (by simp; omega)
      have := h2 ⟨x.val - 256 - 256, a2⟩
      rw [dif_neg a0, dif_neg a1, dif_pos a2]; simpa only [e] using this
    · have e : (⟨768 + (x.val - 256 - 256 - 256), by omega⟩ : Fin 1024) = x := Fin.ext (by simp; omega)
      have := h3 ⟨x.val - 256 - 256 - 256, by omega⟩
      rw [dif_neg a0, dif_neg a1, dif_neg a2]; simpa only [e] using this
  rw [← hr]
  pointwise [k0_pay1, lnv]

/-- The rows a tile's windows start from: sixteen before the tile, then the tile. -/
theorem halo (x : FVec Ideal S2x8192x1024 .f32) (b : Fin 2) (a : ℕ) (i v0 v2 v5) (ha : a < 16) (hi : (i 1).val = a)
    (h0 : ∀ (q : Fin 512) (d), v0 (ix3 0 q d) = x (ix3 b ⟨512 * a + q.val, by omega⟩ d))
    (h2 : ∀ q d, v2 (ix3 0 q d) = (0 : EReal))
    (h5 : ∀ (q : Fin 16) (d) (h : 16 ≤ 512 * a + q.val), v5 (ix3 0 q d) = x (ix3 b ⟨512 * a + q.val - 16, by omega⟩ d))
    (q d) : k0_pay3 (F := Ideal) i v0 v2 v5 (ix2 q d) = padded x b d (512 * a + q.val) := by
  pointwise [k0_pay3]
  unfold padded
  by_cases hq : q.val < 16
  · rw [dif_pos hq, h2]
    by_cases h0a : a = 0
    · subst h0a
      rw [hi, dif_neg (by omega)]
      rfl
    · rw [dif_pos ⟨by omega, by omega⟩, ← h5 ⟨q.val, hq⟩ d (by show 16 ≤ 512 * a + q.val; omega), hi]
      have : Scalar.cmpi CmpIPredicate.eq (BitVec.ofNat 32 a) 0#32 = 0#1 := by
        interval_cases a <;> first | rfl | omega
      rw [this]
      rfl
  · rw [dif_neg hq, dif_pos ⟨by omega, by omega⟩]
    pointwise [k0_pay2]
    rw [h0]
    exact congrArg (fun z => x (ix3 b z d)) (Fin.ext (by simp; omega))

variable (m : (ℓ : Loc nD τ sig) → Buf (Elt Ideal) ℓ)

/-- Which block of its array each window stages at a grid point. -/
theorem idx : ∀ t : Fin cfg0.N, win0_0.index t = ![t.val / 16, t.val % 16, 0]
    ∧ win0_1.index t = ![t.val / 16, 0, 0]
    ∧ win0_2.index t = ![t.val / 16, 32 * (t.val % 16) - 1, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![t.val / 16, t.val % 16, 0] :=
  (by decide +kernel : ∀ t : Fin grid0.N, _)

/-- The grid's second coordinate is the row tile. -/
theorem tile_eq : ∀ t : Fin cfg0.N, ((grid0.coords t) 1).val = t.val % 16 :=
  (by decide +kernel : ∀ t : Fin grid0.N, _)

/-- The tile's rows. -/
theorem tile_at (c : Dev nD) (t : Fin cfg0.N) (b : Fin 2) (hb : b.val = t.val / 16) (q : Fin 512) (d : Fin 1024) :
    iblk m c 0 t (ix3 0 q d) = m ((c : Thread nD τ).loc main_arg0) (ix3 b ⟨512 * (t.val % 16) + q.val, by omega⟩ d) := by
  blk_point [iblk, V, idx t] <;> omega
/-- The zero rows before a sequence. -/
theorem zero_at (c : Dev nD) (t : Fin cfg0.N) (q : Fin 16) (d : Fin 1024) :
    (iblk m c 1 t : Vec Ideal S1x16x1024 .f32) (ix3 0 q d) = (0 : EReal) := by
  simp only [iblk]
  entry_read
  show Ideal.ofBits FTy.f32 0#32 = (0 : EReal)
  simp
/-- The sixteen rows before a tile, when there are any. -/
theorem prev_at (c : Dev nD) (t : Fin cfg0.N) (b : Fin 2) (hb : b.val = t.val / 16) (q : Fin 16) (d : Fin 1024) (h : 16 ≤ 512 * (t.val % 16) + q.val) :
    iblk m c 2 t (ix3 0 q d) = m ((c : Thread nD τ).loc main_arg0) (ix3 b ⟨512 * (t.val % 16) + q.val - 16, by omega⟩ d) := by
  blk_point [iblk, V, idx t] <;> omega
/-- A group's matrix. -/
theorem wt0 (c : Dev nD) (t : Fin cfg0.N) (k j : Fin 256) :
    (View.ld (iblk m c 3 t) r0_2 : Vec Ideal S1x256x256 .bf16) (ix3 0 k j) = m ((c : Thread nD τ).loc main_arg1) (ix3 0 k j) := by
  blk_point [iblk, V, idx t]

/-- A group's matrix. -/
theorem wt1 (c : Dev nD) (t : Fin cfg0.N) (k j : Fin 256) :
    (View.ld (iblk m c 3 t) r0_4 : Vec Ideal S1x256x256 .bf16) (ix3 0 k j) = m ((c : Thread nD τ).loc main_arg1) (ix3 1 k j) := by
  blk_point [iblk, V, idx t]

/-- A group's matrix. -/
theorem wt2 (c : Dev nD) (t : Fin cfg0.N) (k j : Fin 256) :
    (View.ld (iblk m c 3 t) r0_6 : Vec Ideal S1x256x256 .bf16) (ix3 0 k j) = m ((c : Thread nD τ).loc main_arg1) (ix3 2 k j) := by
  blk_point [iblk, V, idx t]

/-- A group's matrix. -/
theorem wt3 (c : Dev nD) (t : Fin cfg0.N) (k j : Fin 256) :
    (View.ld (iblk m c 3 t) r0_8 : Vec Ideal S1x256x256 .bf16) (ix3 0 k j) = m ((c : Thread nD τ).loc main_arg1) (ix3 3 k j) := by
  blk_point [iblk, V, idx t]

/-- The bias's block is the whole vector. -/
theorem bias_at (c : Dev nD) (t : Fin cfg0.N) (j : Fin 1024) :
    iblk m c 4 t (ix2 0 j) = m ((c : Thread nD τ).loc main_arg2) (ix1 j) := by
  blk_point [iblk, V, idx t]

/-- The scale's block is the whole vector. -/
theorem scale_at (c : Dev nD) (t : Fin cfg0.N) (j : Fin 1024) :
    iblk m c 5 t (ix2 0 j) = m ((c : Thread nD τ).loc main_arg3) (ix1 j) := by
  blk_point [iblk, V, idx t]

/-- The norm's scale's block is the whole vector. -/
theorem gain_at (c : Dev nD) (t : Fin cfg0.N) (j : Fin 1024) :
    iblk m c 6 t (ix2 0 j) = m ((c : Thread nD τ).loc main_arg4) (ix1 j) := by
  blk_point [iblk, V, idx t]

/-- The norm's shift's block is the whole vector. -/
theorem shift_at (c : Dev nD) (t : Fin cfg0.N) (j : Fin 1024) :
    iblk m c 7 t (ix2 0 j) = m ((c : Thread nD τ).loc main_arg5) (ix1 j) := by
  blk_point [iblk, V, idx t]

/-- A column group of a row. -/
theorem group_ld (X : Vec Ideal S1x1024 .f32) (o : ℕ) (inb) (ho : o + 256 ≤ 1024) (j : Fin 256) :
    (View.ld X (Rect.unit (s := S1x1024) ![0, o] S1x256.size inb) : Vec Ideal S1x256 .f32) (ix2 0 j) = X (ix2 0 ⟨o + j.val, by omega⟩) := by
  refine View.ld_unit_apply_of _ _ _ _ _ _ fun a => ?_
  fin_cases a <;> simp

/-- The residual sum at a column, by its group and its place in the group. -/
theorem res_at (x w bi sc) (b : Fin 2) (T : Fin 8192) (J : Fin 1024) (g : Fin 4) (k : Fin 256) (h : J.val = 256 * g.val + k.val) :
    Ideal.ofBits FTy.f32 1071072509#32 * x (ix3 b T J) + sc (ix1 J) * (mix x w b T g k + bi (ix1 J)) = res x w bi sc b T J := by
  have hg : (⟨J.val / 256, by omega⟩ : Fin 4) = g := Fin.ext (by simp; omega)
  have hk : (⟨J.val % 256, by omega⟩ : Fin 256) = k := Fin.ext (by simp; omega)
  unfold res
  rw [hg, hk]

/-- The values the payloads share, at whole blocks. -/
theorem pay11_eq (i x0 x1 x2 x3 x4 x5 x6 x7) : k0_pay11 (F := Ideal) i x0 x1 x2 x3 x4 x5 x6 x7 = k0_pay2 x0 := by
  unfold k0_pay11
  rw [View.ld_unit_zero (by funext a; fin_cases a <;> rfl)]

/-- The two stored forms of the first group's difference are one. -/
theorem pay12_eq (i x0 x1 x2 x3 x4 x5 x6 x7) : k0_pay12 (F := Ideal) i x0 x1 x2 x3 x4 x5 x6 x7 = k0_pay3 i x0 x1 x2 := by
  unfold k0_pay12
  rw [View.ld_unit_zero (by funext a; fin_cases a <;> rfl), View.ld_unit_zero (by funext a; fin_cases a <;> rfl),
    View.ld_unit_zero (by funext a; fin_cases a <;> rfl)]

/-- The row number a window's length is counted from. -/
theorem row_no (t : Fin cfg0.N) (p : Fin 512) (k : Fin 256) :
    k0_pay4 (grid0.coords t) (ix2 p k) = BitVec.ofNat 32 (512 * (t.val % 16) + p.val) := by
  pointwise [k0_pay4]
  rw [tile_eq]
  apply BitVec.eq_of_toNat_eq
  simp [IntOp.addi, Scalar.addi, Scalar.muli, IntOp.muli]
  omega

/-- What the body stores at an entry of the block of point `t`. -/
theorem point (c : Dev nD) (t : Fin cfg0.N) (b : Fin 2) (hb : b.val = t.val / 16) (p : Fin 512) (T : Fin 8192)
    (hT : T.val = 512 * (t.val % 16) + p.val) (j : Fin 1024) :
    k0_pay1 (F := Ideal) (k0_pay11 (grid0.coords t) (iblk m c 0 t) (iblk m c 1 t) (iblk m c 2 t) (iblk m c 3 t) (iblk m c 4 t) (iblk m c 5 t)
      (iblk m c 6 t) (iblk m c 7 t)) (k0_pay6 (k0_pay5 (grid0.coords t) (iblk m c 0 t) (iblk m c 1 t) (iblk m c 2 t) (View.ld (iblk m c
      3 t) r0_2) (View.ld (iblk m c 4 t) r0_3)) (View.ld (iblk m c 5 t) r0_3)) (k0_pay7 (k0_pay11 (grid0.coords t) (iblk m c 0 t) (iblk
      m c 1 t) (iblk m c 2 t) (iblk m c 3 t) (iblk m c 4 t) (iblk m c 5 t) (iblk m c 6 t) (iblk m c 7 t)) (k0_pay12 (grid0.coords t)
      (iblk m c 0 t) (iblk m c 1 t) (iblk m c 2 t) (iblk m c 3 t) (iblk m c 4 t) (iblk m c 5 t) (iblk m c 6 t) (iblk m c
      7 t)) (k0_pay13 (grid0.coords t) (iblk m c 0 t) (iblk m c 1 t) (iblk m c 2 t) (iblk m c 3 t) (iblk m c 4 t) (iblk m c 5 t) (iblk
      m c 6 t) (iblk m c 7 t)) (View.ld (iblk m c 3 t) r0_4) (View.ld (iblk m c 4 t) r0_5) (View.ld (iblk m c 5 t)
      r0_5)) (k0_pay9 (k0_pay11 (grid0.coords t) (iblk m c 0 t) (iblk m c 1 t) (iblk m c 2 t) (iblk m c 3 t) (iblk m c 4 t) (iblk m c 5
      t) (iblk m c 6 t) (iblk m c 7 t)) (k0_pay8 (k0_pay12 (grid0.coords t) (iblk m c 0 t) (iblk m c 1 t) (iblk m c 2 t) (iblk m c 3 t)
      (iblk m c 4 t) (iblk m c 5 t) (iblk m c 6 t) (iblk m c 7 t)) (k0_pay13 (grid0.coords t) (iblk m c 0 t) (iblk m c 1 t) (iblk m c 2
      t) (iblk m c 3 t) (iblk m c 4 t) (iblk m c 5 t) (iblk m c 6 t) (iblk m c 7 t))) (View.ld (iblk m c 3 t) r0_6)
      (View.ld (iblk m c 4 t) r0_7) (View.ld (iblk m c 5 t) r0_7)) (k0_pay10 (k0_pay11 (grid0.coords t) (iblk m c 0 t) (iblk m c 1 t)
      (iblk m c 2 t) (iblk m c 3 t) (iblk m c 4 t) (iblk m c 5 t) (iblk m c 6 t) (iblk m c 7 t)) (k0_pay12 (grid0.coords t) (iblk m c 0
      t) (iblk m c 1 t) (iblk m c 2 t) (iblk m c 3 t) (iblk m c 4 t) (iblk m c 5 t) (iblk m c 6 t) (iblk m c 7 t))
      (k0_pay13 (grid0.coords t) (iblk m c 0 t) (iblk m c 1 t) (iblk m c 2 t) (iblk m c 3 t) (iblk m c 4 t) (iblk m c 5 t) (iblk m c 6
      t) (iblk m c 7 t)) (View.ld (iblk m c 3 t) r0_8) (View.ld (iblk m c 4 t) r0_9)) (View.ld (iblk m c 5 t) r0_9)
      (iblk m c 6 t) (iblk m c 7 t) (ix3 0 p j)
      = lnv (res (m ((c : Thread nD τ).loc main_arg0)) (m ((c : Thread nD τ).loc main_arg1)) (m ((c : Thread nD τ).loc
        main_arg2)) (m ((c : Thread nD τ).loc main_arg3)) b T) (m ((c : Thread nD τ).loc main_arg4) (ix1 j))
          (m ((c : Thread nD τ).loc main_arg5) (ix1 j)) j := by
  have ht : t.val % 16 < 16 := Nat.mod_lt _ (by norm_num)
  have h8 : ∀ q d, k0_pay3 (F := Ideal) (grid0.coords t) (iblk m c 0 t) (iblk m c 1 t) (iblk m c 2 t) (ix2 q d)
      = padded (m ((c : Thread nD τ).loc main_arg0)) b d (512 * (t.val % 16) + q.val) :=
    halo _ b (t.val % 16) _ _ _ _ ht (tile_eq t) (tile_at m c t b hb) (zero_at m c t) (prev_at m c t b hb)
  have h1 : ∀ d, k0_pay2 (F := Ideal) (iblk m c 0 t) (ix2 p d) = m ((c : Thread nD τ).loc main_arg0) (ix3 b T d) := by
    intro d
    pointwise [k0_pay2]
    rw [tile_at m c t b hb]
    exact congrArg (fun z => m ((c : Thread nD τ).loc main_arg0) (ix3 b z d)) (Fin.ext hT.symm)
  have h13 : ∀ k, k0_pay4 (grid0.coords t) (ix2 p k) = BitVec.ofNat 32 T.val := fun k => by rw [row_no, hT]
  rw [pay11_eq, pay12_eq, show k0_pay13 (F := Ideal) (grid0.coords t) (iblk m c 0 t) (iblk m c 1 t) (iblk m c 2 t) (iblk m c 3 t) (iblk m c 4 t) (iblk m c 5 t) (iblk m c 6
      t) (iblk m c 7 t) = k0_pay4 (grid0.coords t) from rfl]
  refine (stored _ _ _ _ _ _ _ _ (res (m ((c : Thread nD τ).loc main_arg0)) (m ((c : Thread nD τ).loc main_arg1)) (m ((c : Thread nD τ).loc
        main_arg2)) (m ((c : Thread nD τ).loc main_arg3)) b T) p j ?_ ?_ ?_ ?_).trans (by rw [gain_at, shift_at])
  · intro k
    rw [h1, group0 _ _ b T _ p k hT _ _ _ _ _ _ _ h8 h1 h13 (fun _ => wt0 m c t _ _), group_ld _ 0 _ (by omega), group_ld _ 0 _ (by omega), bias_at, scale_at]
    have hk : (⟨0 + k.val, by omega⟩ : Fin 1024) = ⟨k.val, by omega⟩ := Fin.ext (by simp)
    rw [hk]
    exact res_at _ _ _ _ b T _ 0 k (by simp)
  · intro k
    rw [h1, group1 _ _ b T _ p k hT _ _ _ _ _ _ h8 h1 h13 (fun _ => wt1 m c t _ _), group_ld _ 256 _ (by omega), group_ld _ 256 _ (by omega), bias_at, scale_at]
    exact res_at _ _ _ _ b T _ 1 k (by simp)
  · intro k
    rw [h1, group2 _ _ b T _ p k hT _ _ _ _ _ _ h8 h1 h13 (fun _ => wt2 m c t _ _), group_ld _ 512 _ (by omega), group_ld _ 512 _ (by omega), bias_at, scale_at]
    exact res_at _ _ _ _ b T _ 2 k (by simp)
  · intro k
    rw [h1, group3 _ _ b T _ p k hT _ _ _ _ _ h8 h1 h13 (fun _ => wt3 m c t _ _), group_ld _ 768 _ (by omega), group_ld _ 768 _ (by omega), bias_at, scale_at]
    exact res_at _ _ _ _ b T _ 3 k (by simp)

/-- The kernel's result array after the run is the reference's result. -/
theorem final (c : Dev nD) (hx : ∀ i : S2x8192x1024.Idx, ∃ r : ℝ, m ((c : Thread nD τ).loc main_arg0) i = (r : EReal)) :
    (dats m 0 c).arrAt 8 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have hN : t.val < 32 := t.isLt
  have h1 := (y 1).isLt
  simp at h1
  have he : ((cfg0.win 8).blk t).view.emb y
      = ix3 (⟨t.val / 16, by omega⟩ : Fin 2) (⟨512 * (t.val % 16) + (y 1).val, by omega⟩ : Fin 8192) (y 2) := by
    funext a
    fin_cases a <;> apply Fin.ext <;> blk_simp [idx t] <;> simp <;> omega
  rw [he]
  blk_simp; rw [after0_8]; frame_out
  have hy : (y : S1x512x1024.Idx) = ix3 0 (y 1) (y 2) := by
    funext a
    fin_cases a
    · exact @Subsingleton.elim (Fin 1) _ _ _
    · rfl
    · rfl
  refine (congrArg _ hy).trans ?_
  exact (point m c t _ rfl (y 1) _ rfl (y 2)).trans (REF_at _ _ _ _ _ _ hx _ _ _).symm

end Cert.PoolProof

end
-- ==== Proof.PoolRun.lean ====
/- The run of the pooling mixer's reference: its operations in segments, and what each segment leaves. -/
module

public import proofs.«01_k».proof.Proof.PoolRef
public import Idealize.ShloMosaic.Lib.StableHlo.RunRead
public import Idealize.ShloMosaic.Lib.Claim

@[expose] public section

set_option maxRecDepth 65536

noncomputable section

open Idealize.ShloMosaic Idealize.ShloMosaic.TcCoe Idealize.SL.Sem Idealize.ShloMosaic.StableHlo
open Cert.PoolRefIdeal Cert.PoolRefIdeal.Gen

namespace Cert.PoolProof

set_option maxHeartbeats 4000000 in
/-- The reference's operations, in order. -/
def line : {ops : List (HloOp τ sig (Elt Ideal)) // ∀ d, IsSeq (main (F := Ideal) d) ops} := by
  constructor
  hlo_seq

/-- The operations from one place up to another. -/
def seg (a n : ℕ) : List (HloOp τ sig (Elt Ideal)) := (line.1.drop a).take n

/-- A run up to a place, as a run from an earlier place. -/
theorem seg_after (a n : ℕ) (V) : after (line.1.take (a + n)) V = after (seg a n) (after (line.1.take a) V) := by
  rw [List.take_add, after_append]
  rfl

/-- The row numbers. -/
def refI : IVec S1x8192x1 32 := broadcastInDim S1x8192x1 ![1] bcast_S8192_S1x8192x1_1 (iotaInDim S8192 32 0)

/-- One group's trailing means less the rows, from the row numbers. -/
def refE (n : IVec S1x8192x1 32) (w : BitVec 32) (a b x : FVec Ideal S2x8192x256 .f32) : FVec Ideal S2x8192x256 .f32 :=
  subf (Host.divf (subf a b) (broadcastInDim S2x8192x256 ![0, 1, 2] bcast_S1x8192x1_S2x8192x256_0_1_2
    (sitofp .f32 (minsi (broadcastInDim S1x8192x1 ![] bcast_S_S1x8192x1 (constantI S_ 32 w))
      (addi n (broadcastInDim S1x8192x1 ![] bcast_S_S1x8192x1 (constantI S_ 32 1#32)))) : FVec Ideal S1x8192x1 .f32))) x

/-- A group with a group axis. -/
def refU (a : FVec Ideal S2x8192x256 .f32) : FVec Ideal S2x8192x1x256 .f32 :=
  broadcastInDim S2x8192x1x256 ![0, 1, 3] bcast_S2x8192x256_S2x8192x1x256_0_1_3 a

/-- The four groups put together. -/
def refK (a b c d : FVec Ideal S2x8192x256 .f32) : FVec Ideal S2x8192x4x256 .f32 :=
  concatenate S2x8192x4x256 2
    [⟨S2x8192x1x256, refU a⟩, ⟨S2x8192x1x256, refU b⟩, ⟨S2x8192x1x256, refU c⟩, ⟨S2x8192x1x256, refU d⟩]
    concatenates_S2x8192x1x256_S2x8192x1x256_S2x8192x1x256_S2x8192x1x256_S2x8192x4x256_d2

/-- The cumulative sums and the padding. -/
theorem seg_pad (V) : after (line.1.take 8) V (Proc.devRef .tc main_v1) = refP (refS (V (Proc.devRef .tc main_arg0))) := by
  after_reads_simp
  rfl

/-- The row numbers, as the operations leave them. -/
theorem seg_iota (V) : after (line.1.take 8) V (Proc.devRef .tc main_v3) = refI := by
  after_reads_simp
  rfl

/-- The first group from the padded sums, the row numbers and the activations. -/
def refE0 (p : FVec Ideal S2x8208x1024 .f32) (n : IVec S1x8192x1 32) (x : FVec Ideal S2x8192x1024 .f32) : FVec Ideal S2x8192x256 .f32 :=
  refE n 2#32 (extractStridedSlice S2x8192x256 ![0, 16, 0] p slices_S2x8208x1024_S2x8192x256_0_16_0)
    (extractStridedSlice S2x8192x256 ![0, 14, 0] p slices_S2x8208x1024_S2x8192x256_0_14_0)
    (extractStridedSlice S2x8192x256 ![0, 0, 0] x slices_S2x8192x1024_S2x8192x256_0_0_0)

/-- The first group, as the operations leave it. -/
theorem seg_group0 (V) : after (seg 8 14) V (Proc.devRef .tc main_v15) = refE0 (V (Proc.devRef .tc main_v1))
    (V (Proc.devRef .tc main_v3)) (V (Proc.devRef .tc main_arg0)) := by
  after_reads_simp
  rfl

/-- The second group from the padded sums, the row numbers and the activations. -/
def refE1 (p : FVec Ideal S2x8208x1024 .f32) (n : IVec S1x8192x1 32) (x : FVec Ideal S2x8192x1024 .f32) : FVec Ideal S2x8192x256 .f32 :=
  refE n 4#32 (extractStridedSlice S2x8192x256 ![0, 16, 256] p slices_S2x8208x1024_S2x8192x256_0_16_256)
    (extractStridedSlice S2x8192x256 ![0, 12, 256] p slices_S2x8208x1024_S2x8192x256_0_12_256)
    (extractStridedSlice S2x8192x256 ![0, 0, 256] x slices_S2x8192x1024_S2x8192x256_0_0_256)

/-- The second group, as the operations leave it. -/
theorem seg_group1 (V) : after (seg 22 14) V (Proc.devRef .tc main_v27) = refE1 (V (Proc.devRef .tc main_v1))
    (V (Proc.devRef .tc main_v3)) (V (Proc.devRef .tc main_arg0)) := by
  after_reads_simp
  rfl

/-- The third group from the padded sums, the row numbers and the activations. -/
def refE2 (p : FVec Ideal S2x8208x1024 .f32) (n : IVec S1x8192x1 32) (x : FVec Ideal S2x8192x1024 .f32) : FVec Ideal S2x8192x256 .f32 :=
  refE n 8#32 (extractStridedSlice S2x8192x256 ![0, 16, 512] p slices_S2x8208x1024_S2x8192x256_0_16_512)
    (extractStridedSlice S2x8192x256 ![0, 8, 512] p slices_S2x8208x1024_S2x8192x256_0_8_512)
    (extractStridedSlice S2x8192x256 ![0, 0, 512] x slices_S2x8192x1024_S2x8192x256_0_0_512)

/-- The third group, as the operations leave it. -/
theorem seg_group2 (V) : after (seg 36 14) V (Proc.devRef .tc main_v39) = refE2 (V (Proc.devRef .tc main_v1))
    (V (Proc.devRef .tc main_v3)) (V (Proc.devRef .tc main_arg0)) := by
  after_reads_simp
  rfl

/-- The fourth group from the padded sums, the row numbers and the activations. -/
def refE3 (p : FVec Ideal S2x8208x1024 .f32) (n : IVec S1x8192x1 32) (x : FVec Ideal S2x8192x1024 .f32) : FVec Ideal S2x8192x256 .f32 :=
  refE n 16#32 (extractStridedSlice S2x8192x256 ![0, 16, 768] p slices_S2x8208x1024_S2x8192x256_0_16_768)
    (extractStridedSlice S2x8192x256 ![0, 0, 768] p slices_S2x8208x1024_S2x8192x256_0_0_768)
    (extractStridedSlice S2x8192x256 ![0, 0, 768] x slices_S2x8192x1024_S2x8192x256_0_0_768)

/-- The fourth group, as the operations leave it. -/
theorem seg_group3 (V) : after (seg 50 14) V (Proc.devRef .tc main_v51) = refE3 (V (Proc.devRef .tc main_v1))
    (V (Proc.devRef .tc main_v3)) (V (Proc.devRef .tc main_arg0)) := by
  after_reads_simp
  rfl

/-- The groups put together, as the operations leave them. -/
theorem seg_join (V) : after (seg 64 5) V (Proc.devRef .tc main_v56) = refK (V (Proc.devRef .tc main_v15))
    (V (Proc.devRef .tc main_v27)) (V (Proc.devRef .tc main_v39)) (V (Proc.devRef .tc main_v51)) := by
  after_reads_simp
  rfl

/-- The four groups of the activations and their padded sums. -/
theorem refK_eq (x : FVec Ideal S2x8192x1024 .f32) (p : FVec Ideal S2x8208x1024 .f32) :
    refK (refE0 p refI x) (refE1 p refI x) (refE2 p refI x) (refE3 p refI x) = refG x p := rfl

/-- The four groups, as a run from the start leaves them. -/
theorem seg_groups (V) : after (line.1.take 69) V (Proc.devRef .tc main_v56)
    = refG (V (Proc.devRef .tc main_arg0)) (refP (refS (V (Proc.devRef .tc main_arg0)))) := by
  have h8 := seg_after 8 14 V
  have h22 := seg_after 22 14 V
  have h36 := seg_after 36 14 V
  have h50 := seg_after 50 14 V
  have h64 := seg_after 64 5 V
  have p := seg_pad V
  have n := seg_iota V
  have x : after (line.1.take 8) V (Proc.devRef .tc main_arg0) = V (Proc.devRef .tc main_arg0) := by after_reads_simp
  simp only [Nat.reduceAdd] at h8 h22 h36 h50 h64
  generalize after (line.1.take 8) V = V8 at *
  generalize after (line.1.take 22) V = V22 at *
  generalize after (line.1.take 36) V = V36 at *
  generalize after (line.1.take 50) V = V50 at *
  generalize after (line.1.take 64) V = V64 at *
  have k22_0 : V22 (Proc.devRef .tc main_v1) = V8 (Proc.devRef .tc main_v1) := by rw [h8]; after_reads_simp
  have k22_1 : V22 (Proc.devRef .tc main_v3) = V8 (Proc.devRef .tc main_v3) := by rw [h8]; after_reads_simp
  have k22_2 : V22 (Proc.devRef .tc main_arg0) = V8 (Proc.devRef .tc main_arg0) := by rw [h8]; after_reads_simp
  have g0 := (congrFun h8 (Proc.devRef .tc main_v15)).trans (seg_group0 V8)
  have k36_0 : V36 (Proc.devRef .tc main_v1) = V22 (Proc.devRef .tc main_v1) := by rw [h22]; after_reads_simp
  have k36_1 : V36 (Proc.devRef .tc main_v3) = V22 (Proc.devRef .tc main_v3) := by rw [h22]; after_reads_simp
  have k36_2 : V36 (Proc.devRef .tc main_arg0) = V22 (Proc.devRef .tc main_arg0) := by rw [h22]; after_reads_simp
  have k36_3 : V36 (Proc.devRef .tc main_v15) = V22 (Proc.devRef .tc main_v15) := by rw [h22]; after_reads_simp
  have g1 := (congrFun h22 (Proc.devRef .tc main_v27)).trans (seg_group1 V22)
  have k50_0 : V50 (Proc.devRef .tc main_v1) = V36 (Proc.devRef .tc main_v1) := by rw [h36]; after_reads_simp
  have k50_1 : V50 (Proc.devRef .tc main_v3) = V36 (Proc.devRef .tc main_v3) := by rw [h36]; after_reads_simp
  have k50_2 : V50 (Proc.devRef .tc main_arg0) = V36 (Proc.devRef .tc main_arg0) := by rw [h36]; after_reads_simp
  have k50_3 : V50 (Proc.devRef .tc main_v15) = V36 (Proc.devRef .tc main_v15) := by rw [h36]; after_reads_simp
  have k50_4 : V50 (Proc.devRef .tc main_v27) = V36 (Proc.devRef .tc main_v27) := by rw [h36]; after_reads_simp
  have g2 := (congrFun h36 (Proc.devRef .tc main_v39)).trans (seg_group2 V36)
  have k64_3 : V64 (Proc.devRef .tc main_v15) = V50 (Proc.devRef .tc main_v15) := by rw [h50]; after_reads_simp
  have k64_4 : V64 (Proc.devRef .tc main_v27) = V50 (Proc.devRef .tc main_v27) := by rw [h50]; after_reads_simp
  have k64_5 : V64 (Proc.devRef .tc main_v39) = V50 (Proc.devRef .tc main_v39) := by rw [h50]; after_reads_simp
  have g3 := (congrFun h50 (Proc.devRef .tc main_v51)).trans (seg_group3 V50)
  rw [h64, seg_join, k64_3, k50_3, k36_3, g0, k64_4, k50_4, g1, k64_5, g2, g3, k50_0, k50_1, k50_2, k36_0, k36_1, k36_2, k22_0,
    k22_1, k22_2, p, n, x]
  exact refK_eq _ _

/-- The residual sum. -/
theorem seg_res (V) : after (seg 69 13) V (Proc.devRef .tc main_v68) = refR (V (Proc.devRef .tc main_arg0))
    (V (Proc.devRef .tc main_v56)) (V (Proc.devRef .tc main_arg1)) (V (Proc.devRef .tc main_arg2))
    (V (Proc.devRef .tc main_arg3)) := by
  after_reads_simp
  rfl

/-- The layer norm. -/
theorem seg_norm (V) : after (seg 82 29) V (Proc.devRef .tc main_v92) = refLN (V (Proc.devRef .tc main_v68))
    (V (Proc.devRef .tc main_arg4)) (V (Proc.devRef .tc main_arg5)) := by
  after_reads_simp
  rfl

/-- What the operations leave in the result. -/
theorem result (V) : after line.1 V (Proc.devRef .tc main_v92) = REF (V (Proc.devRef .tc main_arg0))
    (V (Proc.devRef .tc main_arg1)) (V (Proc.devRef .tc main_arg2)) (V (Proc.devRef .tc main_arg3))
    (V (Proc.devRef .tc main_arg4)) (V (Proc.devRef .tc main_arg5)) := by
  have whole : line.1 = line.1.take (82 + 29) := rfl
  have g : after (line.1.take 82) V (Proc.devRef .tc main_arg4) = V (Proc.devRef .tc main_arg4) := by after_reads_simp
  have b : after (line.1.take 82) V (Proc.devRef .tc main_arg5) = V (Proc.devRef .tc main_arg5) := by after_reads_simp
  have x : after (line.1.take 69) V (Proc.devRef .tc main_arg0) = V (Proc.devRef .tc main_arg0) := by after_reads_simp
  have w : after (line.1.take 69) V (Proc.devRef .tc main_arg1) = V (Proc.devRef .tc main_arg1) := by after_reads_simp
  have bi : after (line.1.take 69) V (Proc.devRef .tc main_arg2) = V (Proc.devRef .tc main_arg2) := by after_reads_simp
  have sc : after (line.1.take 69) V (Proc.devRef .tc main_arg3) = V (Proc.devRef .tc main_arg3) := by after_reads_simp
  rw [whole, seg_after, seg_norm, g, b, show (82 : ℕ) = 69 + 13 from rfl, seg_after, seg_res, seg_groups, x, w, bi, sc]
  rfl

/-- Every run of the reference ends with `REF` of its arguments in the result and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92) = REF (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v92).trans (result _),
      (h c main_arg0).trans (by after_reads_simp), (h c main_arg1).trans (by after_reads_simp),
      (h c main_arg2).trans (by after_reads_simp), (h c main_arg3).trans (by after_reads_simp),
      (h c main_arg4).trans (by after_reads_simp), (h c main_arg5).trans (by after_reads_simp)⟩)
    (run_hlo _ _ line.2 (by decide) (by decide) (by simp [line])
      (by intro _ h; (repeat (cases h with | head => rfl | tail _ h => ?_)); exact nomatch h) m ρ)

end Cert.PoolProof

end
-- ==== Proof.PoolClaim.lean ====
/- The value claim of the pooling call. -/
module

public import proofs.«01_k».proof.Defs
public import proofs.«01_k».proof.Proof.PoolValue
public import proofs.«01_k».proof.Proof.PoolRun
public import Idealize.ShloMosaic.Lib.Claim

@[expose] public section

set_option maxRecDepth 16384

noncomputable section

open Idealize.ShloMosaic Idealize.ShloMosaic.TcCoe Idealize.SL.Sem

namespace Cert.Proof

/-- The precondition's one shape relation. -/
instance finite_facts : Cert.Pre_finite.Facts := ⟨by decide⟩

/-- A finite extended real is a real. -/
theorem finite_real (m) (h : Cert.Pre_PoolIdeal_finite m) (c : Dev Cert.PoolIdeal.nD) (i : Cert.PoolIdeal.S2x8192x1024.Idx) :
    ∃ r : ℝ, (m ((c : Thread Cert.PoolIdeal.nD Cert.PoolIdeal.τ).loc Cert.PoolIdeal.main_arg0) i : EReal) = (r : EReal) := by
  have := congrFun (h c) i
  unfold Cert.Pre_finite.fn at this
  pointwise at this
  generalize (m (c.tc.loc PoolIdeal.main_arg0) i : EReal) = z at this
  have top : Ideal.ofBits FTy.f32 2139095040#32 = (⊤ : EReal) := by simp [Ideal.ofBits, Ideal.ieee]
  rw [top] at this
  induction z using EReal.rec with
  | coe r => exact ⟨r, rfl⟩
  | bot => simp [FloatOps.absf] at this
  | top => simp [FloatOps.absf] at this

set_option maxHeartbeats 4000000 in
/-- The pooling kernel and its reference end with the same result where the activations are finite. -/
theorem algebraic_Pool : Cert.algebraic_PoolIdeal_PoolRefIdeal_pre_finite := by
  pair_intro
  · run_from Cert.PoolIdeal.Gen.run_main m g
  · run_from Cert.PoolProof.run m' g'
    exact (Cert.PoolProof.final m c (finite_real m hpre c)).symm

end Cert.Proof

end
-- ==== Proof.lean ====
module

public import proofs.«01_k».proof.Defs
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PoolIdeal.Value
public import proofs.«01_k».proof.Proof.Gen.PleIdeal.Value
public import proofs.«01_k».proof.Proof.Gen.PleRefIdeal.Run
public import proofs.«01_k».proof.Proof.PleClaim
public import proofs.«01_k».proof.Proof.KvClaim
public import proofs.«01_k».proof.Proof.OutClaim
public import proofs.«01_k».proof.Proof.FfsClaim
public import proofs.«01_k».proof.Proof.FfsRefFrame
public import proofs.«01_k».proof.Proof.QsClaim
public import proofs.«01_k».proof.Proof.FfnClaim
public import proofs.«01_k».proof.Proof.FfnRefFrame
public import proofs.«01_k».proof.Proof.PoolRefFrame
public import proofs.«01_k».proof.Proof.PoolClaim
public import proofs.«01_k».proof.Proof.Gen.KvIdeal.Value
public import proofs.«01_k».proof.Proof.Gen.KvRefIdeal.Run
public import proofs.«01_k».proof.Proof.Gen.KvsIdeal.Value
public import proofs.«01_k».proof.Proof.Gen.KvsRefIdeal.Run
public import proofs.«01_k».proof.Proof.Gen.OutIdeal.Value
public import proofs.«01_k».proof.Proof.Gen.OutRefIdeal.Run
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.Kvs
public import proofs.«01_k».proof.Proof.Gen.Kvs.Skeleton
public import proofs.«01_k».proof.Proof.Gen.Kvs.Launch
public import proofs.«01_k».proof.Proof.Gen.Kvs.Points
public import proofs.«01_k».proof.Proof.Gen.Kvs.Frame
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.Ffs
public import proofs.«01_k».proof.Proof.Gen.Ffs.Skeleton
public import proofs.«01_k».proof.Proof.Gen.Ffs.Launch
public import proofs.«01_k».proof.Proof.Gen.Ffs.Points
public import proofs.«01_k».proof.Proof.Gen.Ffs.Frame
public import proofs.«01_k».proof.Proof.Gen.FfsIdeal
public import proofs.«01_k».proof.Proof.Gen.FfsIdeal.Skeleton
public import proofs.«01_k».proof.Proof.Gen.FfsIdeal.Launch
public import proofs.«01_k».proof.Proof.Gen.FfsIdeal.Points
public import proofs.«01_k».proof.Proof.Gen.FfsIdeal.Frame
public import proofs.«01_k».proof.Proof.Gen.FfsRefIdeal
public import proofs.«01_k».proof.Proof.Gen.Qs
public import proofs.«01_k».proof.Proof.Gen.Qs.Skeleton
public import proofs.«01_k».proof.Proof.Gen.Qs.Launch
public import proofs.«01_k».proof.Proof.Gen.Qs.Points
public import proofs.«01_k».proof.Proof.Gen.Qs.Frame
public import proofs.«01_k».proof.Proof.Gen.QsIdeal
public import proofs.«01_k».proof.Proof.Gen.QsIdeal.Skeleton
public import proofs.«01_k».proof.Proof.Gen.QsIdeal.Launch
public import proofs.«01_k».proof.Proof.Gen.QsIdeal.Points
public import proofs.«01_k».proof.Proof.Gen.QsIdeal.Frame
public import proofs.«01_k».proof.Proof.Gen.QsRefIdeal
public import proofs.«01_k».proof.Proof.Gen.QsIdeal.Value
public import proofs.«01_k».proof.Proof.Gen.QsRefIdeal.Run
public import proofs.«01_k».proof.Proof.Gen.Gs
public import proofs.«01_k».proof.Proof.Gen.Gs.Skeleton
public import proofs.«01_k».proof.Proof.Gen.Gs.Launch
public import proofs.«01_k».proof.Proof.Gen.Gs.Points
public import proofs.«01_k».proof.Proof.Gen.Gs.Frame
public import proofs.«01_k».proof.Proof.Gen.GsIdeal
public import proofs.«01_k».proof.Proof.Gen.GsIdeal.Skeleton
public import proofs.«01_k».proof.Proof.Gen.GsIdeal.Launch
public import proofs.«01_k».proof.Proof.Gen.GsIdeal.Points
public import proofs.«01_k».proof.Proof.Gen.GsIdeal.Frame
public import proofs.«01_k».proof.Proof.Gen.GsRefIdeal
public import proofs.«01_k».proof.Proof.Gen.GsIdeal.Value
public import proofs.«01_k».proof.Proof.Gen.GsRefIdeal.Run
public import Idealize.ShloMosaic.Adequacy
public import Idealize.ShloMosaic.Init

@[expose] public section

noncomputable section

namespace Cert.Proof

open Idealize.ShloMosaic Idealize.SL.Sem Cert.Pool

theorem claim : Cert.Claim := ⟨Cert.Pool.Gen.facts, Cert.PoolIdeal.Gen.facts, Cert.PoolRefIdeal.Gen.facts, Cert.Ffn.Gen.facts, Cert.FfnIdeal.Gen.facts, Cert.FfnRefIdeal.Gen.facts, Cert.Ple.Gen.facts, Cert.PleIdeal.Gen.facts, Cert.PleRefIdeal.Gen.facts, Cert.Kv.Gen.facts, Cert.KvIdeal.Gen.facts, Cert.KvRefIdeal.Gen.facts, Cert.Kvs.Gen.facts, Cert.KvsIdeal.Gen.facts, Cert.KvsRefIdeal.Gen.facts, Cert.Out.Gen.facts, Cert.OutIdeal.Gen.facts, Cert.OutRefIdeal.Gen.facts, Cert.Ffs.Gen.facts, Cert.FfsIdeal.Gen.facts, Cert.FfsRefIdeal.Gen.facts, Cert.Qs.Gen.facts, Cert.QsIdeal.Gen.facts, Cert.QsRefIdeal.Gen.facts, Cert.Gs.Gen.facts, Cert.GsIdeal.Gen.facts, Cert.GsRefIdeal.Gen.facts, finite_facts, by
  exact ⟨fun m g _ => Cert.Pool.Gen.frame m g, fun m g _ => Cert.PoolIdeal.Gen.frame m g,
    fun m g _ => Cert.PoolIdeal.Gen.frame m g, quiescent_PoolRef, fun m g _ => quiescent_PoolRef m g trivial,
    fun m g _ => Cert.Ffn.Gen.frame m g, fun m g _ => Cert.FfnIdeal.Gen.frame m g, quiescent_FfnRef,
    fun m g _ => Cert.Ple.Gen.frame m g, fun m g _ => Cert.PleIdeal.Gen.frame m g, quiescent_PleRef,
    fun m g _ => Cert.Kv.Gen.frame m g, fun m g _ => Cert.KvIdeal.Gen.frame m g, quiescent_KvRef,
    fun m g _ => Cert.Kvs.Gen.frame m g, fun m g _ => Cert.KvsIdeal.Gen.frame m g, quiescent_KvsRef,
    fun m g _ => Cert.Out.Gen.frame m g, fun m g _ => Cert.OutIdeal.Gen.frame m g, quiescent_OutRef,
    fun m g _ => Cert.Ffs.Gen.frame m g, fun m g _ => Cert.FfsIdeal.Gen.frame m g, quiescent_FfsRef,
    fun m g _ => Cert.Qs.Gen.frame m g, fun m g _ => Cert.QsIdeal.Gen.frame m g, quiescent_QsRef,
    fun m g _ => Cert.Gs.Gen.frame m g, fun m g _ => Cert.GsIdeal.Gen.frame m g, quiescent_GsRef,
    trivial, algebraic_Pool, trivial, algebraic_Ffn, trivial, algebraic_Ple,
    trivial, algebraic_Kv, trivial, algebraic_Kvs, trivial, algebraic_Out,
    trivial, algebraic_Ffs, trivial, algebraic_Qs, trivial, algebraic_Gs⟩⟩

end Cert.Proof

end
